-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 512]⟩ ⟨3, ![4, 2048, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![512, 512]⟩ ⟨2, ![2048, 512]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x512 : Shape := ⟨3, ![1, 2048, 512]⟩
abbrev S512 : Shape := ⟨1, ![512]⟩
abbrev S2048x512 : Shape := ⟨2, ![2048, 512]⟩
abbrev S1x512 : Shape := ⟨2, ![1, 512]⟩
abbrev S512x512 : Shape := ⟨2, ![512, 512]⟩
abbrev S3x256x512 : Shape := ⟨3, ![3, 256, 512]⟩
abbrev S12 : Shape := ⟨1, ![12]⟩
abbrev S4 : Shape := ⟨1, ![4]⟩
abbrev S_ : Shape := ⟨0, ![]⟩
abbrev S1 : Shape := ⟨1, ![1]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x2048x512, .f32⟩
  | .hbm, ⟨1, _⟩ => ⟨S512, .f32⟩
  | .hbm, ⟨2, _⟩ => ⟨S2048x512, .f32⟩
  | .hbm, ⟨3, _⟩ => ⟨S1x512, .f32⟩
  | .hbm, ⟨4, _⟩ => ⟨S512x512, .f32⟩
  | .local _ .vmem, ⟨0, _⟩ => ⟨S2048x512, .f32⟩
  | .local _ .vmem, ⟨1, _⟩ => ⟨S1x512, .f32⟩
  | .local _ .vmem, ⟨2, _⟩ => ⟨S512x512, .f32⟩
  | .local _ .vmem, ⟨3, _⟩ => ⟨S3x256x512, .f32⟩
  | .local _ .vmem, ⟨4, _⟩ => ⟨S3x256x512, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_18 : BitVec 32 := 16#32
  let v34 : BitVec 32 := Scalar.muli v2 c16_i32_18
  let v35 : BitVec 32 := Scalar.addi c0_i32_19 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v20 : BitVec 32 := Scalar.addi v5 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_20 : BitVec 32 := 4#32
  let v36 : BitVec 32 := Scalar.muli v31 c4_i32_20
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v38 : BitVec 32 := Scalar.muli v8 c1_i32_21
  let v39 : BitVec 32 := Scalar.addi v37 v38
  v39.toNat
def k0_dev2 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v40 : BitVec 32 := Scalar.muli v2 c16_i32_23
  let v41 : BitVec 32 := Scalar.addi c0_i32_24 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_25 : BitVec 32 := 4#32
  let v42 : BitVec 32 := Scalar.muli v19 c4_i32_25
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v44 : BitVec 32 := Scalar.muli v8 c1_i32_26
  let v45 : BitVec 32 := Scalar.addi v43 v44
  v45.toNat
def k0_dev3 (d0 : Dev nD) : Nat :=
  let c0_i32_29 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.subi c1_i32_16 v2
  let c16_i32_28 : BitVec 32 := 16#32
  let v46 : BitVec 32 := Scalar.muli v33 c16_i32_28
  let v47 : BitVec 32 := Scalar.addi c0_i32_29 v46
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_30 : BitVec 32 := 4#32
  let v48 : BitVec 32 := Scalar.muli v5 c4_i32_30
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v50 : BitVec 32 := Scalar.muli v8 c1_i32_31
  let v51 : BitVec 32 := Scalar.addi v49 v50
  v51.toNat
def k0_off1 (d0 : Dev nD) (c0_i32_40 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_32 : BitVec 32 := 4#32
  let v53 : BitVec 32 := Scalar.addi v5 c4_i32_32
  let c1_i32_33 : BitVec 32 := 1#32
  let v54 : BitVec 32 := Scalar.subi v53 c1_i32_33
  let c4_i32_34 : BitVec 32 := 4#32
  let c0_i32_35 : BitVec 32 := 0#32
  let v55 : BitVec 1 := Scalar.cmpi .eq c4_i32_34 c0_i32_35
  let c1_i32_36 : BitVec 32 := 1#32
  let v56 : BitVec 32 := Scalar.select v55 c1_i32_36 c4_i32_34
  let v57 : BitVec 32 := Scalar.remsi v54 v56
  let c0_i32_38 : BitVec 32 := 0#32
  let v59 : BitVec 1 := Scalar.cmpi .slt v57 c0_i32_38
  let c0_i32_39 : BitVec 32 := 0#32
  let v60 : BitVec 1 := Scalar.cmpi .slt v56 c0_i32_39
  let v61 : BitVec 1 := Scalar.xori v59 v60
  let c0_i32_37 : BitVec 32 := 0#32
  let v58 : BitVec 1 := Scalar.cmpi .ne v57 c0_i32_37
  let v62 : BitVec 1 := Scalar.andi v61 v58
  let v63 : BitVec 32 := Scalar.addi v57 v56
  let v64 : BitVec 32 := Scalar.select v62 v63 v57
  let c512_i32 : BitVec 32 := 512#32
  let v65 : BitVec 32 := Scalar.muli v64 c512_i32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v52 : BitVec 32 := Scalar.muli v2 c256_i32
  let v66 : BitVec 32 := Scalar.addi v65 v52
  let v67 : BitVec 32 := Scalar.addi v66 c0_i32_40
  let c0_i32_50 : BitVec 32 := 0#32
  ![v67.toNat, 0]
def k0_dev4 (d0 : Dev nD) : Nat :=
  let c0_i32_45 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_44 : BitVec 32 := 16#32
  let v68 : BitVec 32 := Scalar.muli v2 c16_i32_44
  let v69 : BitVec 32 := Scalar.addi c0_i32_45 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_46 : BitVec 32 := 4#32
  let v70 : BitVec 32 := Scalar.muli v19 c4_i32_46
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v72 : BitVec 32 := Scalar.muli v8 c1_i32_47
  let v73 : BitVec 32 := Scalar.addi v71 v72
  v73.toNat
def k0_dev5 (d0 : Dev nD) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_55 : BitVec 32 := 16#32
  let v84 : BitVec 32 := Scalar.muli v2 c16_i32_55
  let v85 : BitVec 32 := Scalar.addi c0_i32_56 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_57 : BitVec 32 := 4#32
  let v86 : BitVec 32 := Scalar.muli v19 c4_i32_57
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v88 : BitVec 32 := Scalar.muli v8 c1_i32_58
  let v89 : BitVec 32 := Scalar.addi v87 v88
  v89.toNat
def k0_dev6 (d0 : Dev nD) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_66 : BitVec 32 := 16#32
  let v100 : BitVec 32 := Scalar.muli v2 c16_i32_66
  let v101 : BitVec 32 := Scalar.addi c0_i32_67 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_68 : BitVec 32 := 4#32
  let v102 : BitVec 32 := Scalar.muli v19 c4_i32_68
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v104 : BitVec 32 := Scalar.muli v8 c1_i32_69
  let v105 : BitVec 32 := Scalar.addi v103 v104
  v105.toNat
def k0_dev7 (d0 : Dev nD) : Nat :=
  let c0_i32_78 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_77 : BitVec 32 := 16#32
  let v116 : BitVec 32 := Scalar.muli v2 c16_i32_77
  let v117 : BitVec 32 := Scalar.addi c0_i32_78 v116
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_79 : BitVec 32 := 4#32
  let v118 : BitVec 32 := Scalar.muli v19 c4_i32_79
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v120 : BitVec 32 := Scalar.muli v8 c1_i32_80
  let v121 : BitVec 32 := Scalar.addi v119 v120
  v121.toNat
def k0_off2 (d0 : Dev nD) (c2_i32_96 : BitVec 32) (c0_i32_116 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v141 : BitVec 32 := Scalar.addi v5 c2_i32_96
  let c4_i32_97 : BitVec 32 := 4#32
  let c0_i32_98 : BitVec 32 := 0#32
  let v142 : BitVec 1 := Scalar.cmpi .eq c4_i32_97 c0_i32_98
  let c1_i32_99 : BitVec 32 := 1#32
  let v143 : BitVec 32 := Scalar.select v142 c1_i32_99 c4_i32_97
  let v144 : BitVec 32 := Scalar.remsi v141 v143
  let c0_i32_101 : BitVec 32 := 0#32
  let v146 : BitVec 1 := Scalar.cmpi .slt v144 c0_i32_101
  let c0_i32_102 : BitVec 32 := 0#32
  let v147 : BitVec 1 := Scalar.cmpi .slt v143 c0_i32_102
  let v148 : BitVec 1 := Scalar.xori v146 v147
  let c0_i32_100 : BitVec 32 := 0#32
  let v145 : BitVec 1 := Scalar.cmpi .ne v144 c0_i32_100
  let v149 : BitVec 1 := Scalar.andi v148 v145
  let v150 : BitVec 32 := Scalar.addi v144 v143
  let v151 : BitVec 32 := Scalar.select v149 v150 v144
  let c512_i32_115 : BitVec 32 := 512#32
  let v165 : BitVec 32 := Scalar.muli v151 c512_i32_115
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v52 : BitVec 32 := Scalar.muli v2 c256_i32
  let v166 : BitVec 32 := Scalar.addi v165 v52
  let v167 : BitVec 32 := Scalar.addi v166 c0_i32_116
  let v168 : Index := Scalar.indexCast v167
  let c0_117 : Index := 0#32
  ![v168.toNat, 0]
def k0_dev8 (d0 : Dev nD) : Nat :=
  let c0_i32_125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_124 : BitVec 32 := 16#32
  let v175 : BitVec 32 := Scalar.muli v2 c16_i32_124
  let v176 : BitVec 32 := Scalar.addi c0_i32_125 v175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_126 : BitVec 32 := 4#32
  let v177 : BitVec 32 := Scalar.muli v19 c4_i32_126
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v179 : BitVec 32 := Scalar.muli v8 c1_i32_127
  let v180 : BitVec 32 := Scalar.addi v178 v179
  v180.toNat
def k0_dev9 (d0 : Dev nD) : Nat :=
  let c0_i32_154 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_153 : BitVec 32 := 16#32
  let v212 : BitVec 32 := Scalar.muli v2 c16_i32_153
  let v213 : BitVec 32 := Scalar.addi c0_i32_154 v212
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_155 : BitVec 32 := 4#32
  let v214 : BitVec 32 := Scalar.muli v19 c4_i32_155
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v216 : BitVec 32 := Scalar.muli v8 c1_i32_156
  let v217 : BitVec 32 := Scalar.addi v215 v216
  v217.toNat
def k0_dev10 (d0 : Dev nD) : Nat :=
  let c0_i32_183 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_182 : BitVec 32 := 16#32
  let v249 : BitVec 32 := Scalar.muli v2 c16_i32_182
  let v250 : BitVec 32 := Scalar.addi c0_i32_183 v249
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_184 : BitVec 32 := 4#32
  let v251 : BitVec 32 := Scalar.muli v19 c4_i32_184
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v253 : BitVec 32 := Scalar.muli v8 c1_i32_185
  let v254 : BitVec 32 := Scalar.addi v252 v253
  v254.toNat
def k0_dev11 (d0 : Dev nD) : Nat :=
  let c0_i32_212 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_211 : BitVec 32 := 16#32
  let v286 : BitVec 32 := Scalar.muli v2 c16_i32_211
  let v287 : BitVec 32 := Scalar.addi c0_i32_212 v286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_213 : BitVec 32 := 4#32
  let v288 : BitVec 32 := Scalar.muli v19 c4_i32_213
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v290 : BitVec 32 := Scalar.muli v8 c1_i32_214
  let v291 : BitVec 32 := Scalar.addi v289 v290
  v291.toNat
def k0_dev12 (d0 : Dev nD) : Nat :=
  let c0_i32_250 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_249 : BitVec 32 := 16#32
  let v335 : BitVec 32 := Scalar.muli v2 c16_i32_249
  let v336 : BitVec 32 := Scalar.addi c0_i32_250 v335
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_251 : BitVec 32 := 4#32
  let v337 : BitVec 32 := Scalar.muli v19 c4_i32_251
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_252 : BitVec 32 := 1#32
  let v339 : BitVec 32 := Scalar.muli v8 c1_i32_252
  let v340 : BitVec 32 := Scalar.addi v338 v339
  v340.toNat
def k0_dev13 (d0 : Dev nD) : Nat :=
  let c0_i32_282 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_281 : BitVec 32 := 16#32
  let v373 : BitVec 32 := Scalar.muli v2 c16_i32_281
  let v374 : BitVec 32 := Scalar.addi c0_i32_282 v373
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_283 : BitVec 32 := 4#32
  let v375 : BitVec 32 := Scalar.muli v19 c4_i32_283
  let v376 : BitVec 32 := Scalar.addi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_284 : BitVec 32 := 1#32
  let v377 : BitVec 32 := Scalar.muli v8 c1_i32_284
  let v378 : BitVec 32 := Scalar.addi v376 v377
  v378.toNat
def k0_dev14 (d0 : Dev nD) : Nat :=
  let c0_i32_314 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_313 : BitVec 32 := 16#32
  let v411 : BitVec 32 := Scalar.muli v2 c16_i32_313
  let v412 : BitVec 32 := Scalar.addi c0_i32_314 v411
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_315 : BitVec 32 := 4#32
  let v413 : BitVec 32 := Scalar.muli v19 c4_i32_315
  let v414 : BitVec 32 := Scalar.addi v412 v413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v415 : BitVec 32 := Scalar.muli v8 c1_i32_316
  let v416 : BitVec 32 := Scalar.addi v414 v415
  v416.toNat
def k0_dev15 (d0 : Dev nD) : Nat :=
  let c0_i32_346 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_345 : BitVec 32 := 16#32
  let v449 : BitVec 32 := Scalar.muli v2 c16_i32_345
  let v450 : BitVec 32 := Scalar.addi c0_i32_346 v449
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_347 : BitVec 32 := 4#32
  let v451 : BitVec 32 := Scalar.muli v19 c4_i32_347
  let v452 : BitVec 32 := Scalar.addi v450 v451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v453 : BitVec 32 := Scalar.muli v8 c1_i32_348
  let v454 : BitVec 32 := Scalar.addi v452 v453
  v454.toNat
def k0_off3 (d0 : Dev nD) (c0_i32_382 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v52 : BitVec 32 := Scalar.muli v2 c256_i32
  let v509 : BitVec 32 := Scalar.addi v52 c0_i32_382
  let v510 : Index := Scalar.indexCast v509
  let c0_383 : Index := 0#32
  ![v510.toNat, 0]
def k0_off4 (d0 : Dev nD) (c0_i32_85 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v52 : BitVec 32 := Scalar.muli v2 c256_i32
  let v130 : BitVec 32 := Scalar.addi v52 c0_i32_85
  let c0_i32_390 : BitVec 32 := 0#32
  ![v130.toNat, 0]
def k0_dev16 (d0 : Dev nD) : Nat :=
  let c0_i32_387 : BitVec 32 := 0#32
  let c1_i32_86 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v131 : BitVec 32 := Scalar.subi c1_i32_86 v2
  let c16_i32_386 : BitVec 32 := 16#32
  let v512 : BitVec 32 := Scalar.muli v131 c16_i32_386
  let v513 : BitVec 32 := Scalar.addi c0_i32_387 v512
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_388 : BitVec 32 := 4#32
  let v514 : BitVec 32 := Scalar.muli v5 c4_i32_388
  let v515 : BitVec 32 := Scalar.addi v513 v514
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_389 : BitVec 32 := 1#32
  let v516 : BitVec 32 := Scalar.muli v8 c1_i32_389
  let v517 : BitVec 32 := Scalar.addi v515 v516
  v517.toNat
def k0_dev17 (d0 : Dev nD) : Nat :=
  let c0_i32_420 : BitVec 32 := 0#32
  let c1_i32_89 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v134 : BitVec 32 := Scalar.subi c1_i32_89 v2
  let c16_i32_419 : BitVec 32 := 16#32
  let v562 : BitVec 32 := Scalar.muli v134 c16_i32_419
  let v563 : BitVec 32 := Scalar.addi c0_i32_420 v562
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_421 : BitVec 32 := 4#32
  let v564 : BitVec 32 := Scalar.muli v5 c4_i32_421
  let v565 : BitVec 32 := Scalar.addi v563 v564
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_422 : BitVec 32 := 1#32
  let v566 : BitVec 32 := Scalar.muli v8 c1_i32_422
  let v567 : BitVec 32 := Scalar.addi v565 v566
  v567.toNat
def k0_dev18 (d0 : Dev nD) : Nat :=
  let c0_i32_453 : BitVec 32 := 0#32
  let c1_i32_92 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v137 : BitVec 32 := Scalar.subi c1_i32_92 v2
  let c16_i32_452 : BitVec 32 := 16#32
  let v612 : BitVec 32 := Scalar.muli v137 c16_i32_452
  let v613 : BitVec 32 := Scalar.addi c0_i32_453 v612
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_454 : BitVec 32 := 4#32
  let v614 : BitVec 32 := Scalar.muli v5 c4_i32_454
  let v615 : BitVec 32 := Scalar.addi v613 v614
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_455 : BitVec 32 := 1#32
  let v616 : BitVec 32 := Scalar.muli v8 c1_i32_455
  let v617 : BitVec 32 := Scalar.addi v615 v616
  v617.toNat
def k0_dev19 (d0 : Dev nD) : Nat :=
  let c0_i32_486 : BitVec 32 := 0#32
  let c1_i32_95 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v140 : BitVec 32 := Scalar.subi c1_i32_95 v2
  let c16_i32_485 : BitVec 32 := 16#32
  let v662 : BitVec 32 := Scalar.muli v140 c16_i32_485
  let v663 : BitVec 32 := Scalar.addi c0_i32_486 v662
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_487 : BitVec 32 := 4#32
  let v664 : BitVec 32 := Scalar.muli v5 c4_i32_487
  let v665 : BitVec 32 := Scalar.addi v663 v664
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_488 : BitVec 32 := 1#32
  let v666 : BitVec 32 := Scalar.muli v8 c1_i32_488
  let v667 : BitVec 32 := Scalar.addi v665 v666
  v667.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x512 : Shape := ⟨3, ![4, 2048, 512]⟩
abbrev S512 : Shape := ⟨1, ![512]⟩
abbrev S_ : Shape := ⟨0, ![]⟩
abbrev S2048x512 : Shape := ⟨2, ![2048, 512]⟩
abbrev S2048 : Shape := ⟨1, ![2048]⟩
abbrev S2048x1 : Shape := ⟨2, ![2048, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S512, .f32⟩
  | .hbm, ⟨2, _⟩ => ⟨S_, .f32⟩
  | .hbm, ⟨3, _⟩ => ⟨S2048x512, .f32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x512, .f32⟩
  | .hbm, ⟨16, _⟩ => ⟨S2048x512, .f32⟩
  | .hbm, ⟨17, _⟩ => ⟨S1x512, .f32⟩
  | .hbm, ⟨18, _⟩ => ⟨S2048x512, .f32⟩
  | .hbm, ⟨19, _⟩ => ⟨S2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/-
  The mesh. Device d of the 32 stands at (x, y, z) with d = 16x + 4y + z. The kernel talks to three devices: the right and
  the left neighbour on the ring over y, and the peer over x. The facts below give the printed device numbers and the printed
  row offsets in these terms.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

set_option maxRecDepth 16384

namespace Cert.KernelIdeal.Run

open Idealize.ShloMosaic Cert.KernelIdeal

/-- The coordinates. -/
def cx (c : Dev nD) : ℕ := c.val / 16
def cy (c : Dev nD) : ℕ := c.val / 4 % 4

theorem cx_lt (c : Dev nD) : cx c < 2 := by unfold cx; have : c.val < 32 := c.isLt; omega
theorem cy_lt (c : Dev nD) : cy c < 4 := by unfold cy; omega

/-- The device at position y of c's ring. -/
def atY (c : Dev nD) (y : Fin 4) : Dev nD :=
  ⟨16 * (c.val / 16) + 4 * y.val + c.val % 4, by have h : c.val < 32 := c.isLt; have := y.isLt; show _ < 32; omega⟩

def rgt (c : Dev nD) : Dev nD := atY c ⟨(c.val / 4 + 1) % 4, Nat.mod_lt _ (by decide)⟩
def lft (c : Dev nD) : Dev nD := atY c ⟨(c.val / 4 + 3) % 4, Nat.mod_lt _ (by decide)⟩
def xp (c : Dev nD) : Dev nD := ⟨(c.val + 16) % 32, Nat.mod_lt _ (by decide)⟩

theorem lft_rgt : ∀ c : Dev nD, lft (rgt c) = c := by decide
theorem rgt_lft : ∀ c : Dev nD, rgt (lft c) = c := by decide
theorem xp_xp : ∀ c : Dev nD, xp (xp c) = c := by decide
theorem cx_lft : ∀ c : Dev nD, cx (lft c) = cx c := by decide
theorem cx_rgt : ∀ c : Dev nD, cx (rgt c) = cx c := by decide
theorem cy_lft : ∀ c : Dev nD, cy (lft c) = (cy c + 3) % 4 := by decide
theorem cx_xp : ∀ c : Dev nD, cx (xp c) = 1 - cx c := by decide
theorem cy_xp : ∀ c : Dev nD, cy (xp c) = cy c := by decide

/-- The two permutations, as equivalences: a family over the devices may be read through either. -/
def rgtE : Dev nD ≃ Dev nD := ⟨rgt, lft, lft_rgt, rgt_lft⟩
def lftE : Dev nD ≃ Dev nD := ⟨lft, rgt, rgt_lft, lft_rgt⟩
def xpE : Dev nD ≃ Dev nD := ⟨xp, xp, xp_xp, xp_xp⟩

theorem rgt_inj {c d : Dev nD} (h : rgt c = rgt d) : c = d := rgtE.injective h
theorem lft_inj {c d : Dev nD} (h : lft c = lft d) : c = d := lftE.injective h
theorem xp_inj {c d : Dev nD} (h : xp c = xp d) : c = d := xpE.injective h

/-! ## The printed device numbers -/

theorem dev_left : ∀ c : Dev nD, k0_dev1 c = (lft c).val := by decide +kernel
theorem dev_right : ∀ c : Dev nD, k0_dev2 c = (rgt c).val := by decide +kernel
theorem dev_peer : ∀ c : Dev nD, k0_dev3 c = (xp c).val := by decide +kernel
theorem dev_send : ∀ c : Dev nD, k0_dev4 c = (rgt c).val ∧ k0_dev5 c = (rgt c).val ∧ k0_dev6 c = (rgt c).val ∧ k0_dev7 c = (rgt c).val
    ∧ k0_dev8 c = (rgt c).val ∧ k0_dev9 c = (rgt c).val ∧ k0_dev10 c = (rgt c).val ∧ k0_dev11 c = (rgt c).val
    ∧ k0_dev12 c = (rgt c).val ∧ k0_dev13 c = (rgt c).val ∧ k0_dev14 c = (rgt c).val ∧ k0_dev15 c = (rgt c).val := by decide +kernel
theorem dev_xsend : ∀ c : Dev nD, k0_dev16 c = (xp c).val ∧ k0_dev17 c = (xp c).val ∧ k0_dev18 c = (xp c).val ∧ k0_dev19 c = (xp c).val := by
  decide +kernel

/-! ## The printed row offsets -/

theorem off_src : ∀ (c : Dev nD) (k : Fin 4), k0_off1 c (BitVec.ofNat 32 (64 * k.val)) = ![512 * ((cy c + 3) % 4) + 256 * cx c + 64 * k.val, 0] := by
  decide +kernel
theorem off_chunk : ∀ (c : Dev nD) (r : Fin 3) (k : Fin 4), k0_off2 c (BitVec.ofNat 32 r.val) (BitVec.ofNat 32 (64 * k.val))
    = ![512 * ((cy c + r.val) % 4) + 256 * cx c + 64 * k.val, 0] := by decide +kernel
theorem off_out : ∀ (c : Dev nD) (k : Fin 4), k0_off4 c (BitVec.ofNat 32 (64 * k.val)) = ![256 * cx c + 64 * k.val, 0] := by decide +kernel

end Cert.KernelIdeal.Run
-- ==== Proof.Blocks.lean ====
/-
  The pieces the kernel works on, and what each of them holds.

  Every buffer the copies touch is cut into blocks of 64 rows: slot (s, k) of the send and of the receive buffer, block k of
  the kernel's half of the result. What stands in a block is a function of the devices' inputs alone: `sent m s c k` is the
  partial sum device c sends to its right neighbour in step s, `outBlk m c k` the finished block of device c's half.
-/
module

public import proofs.«01_k».proof.Proof.Mesh
public import Idealize.ShloMosaic.Lib.Pipeline.Value
public import Idealize.ShloMosaic.Lib.Memref

@[expose] public section

set_option maxRecDepth 16384

noncomputable section

namespace Cert.KernelIdeal.Run

open Idealize.ShloMosaic Idealize.ShloMosaic.TcCoe Cert.KernelIdeal Cert.KernelIdeal.Gen
open Idealize.SL Idealize.SL.Sem

variable {F : FTy → Type} [FloatOps F]

/-! ## The five buffers, whole -/

abbrev pM : Memref sig .tc .vmem S2048x512 .f32 := Memref.whole cc0_stg0_0
abbrev gM : Memref sig .tc .vmem S1x512 .f32 := Memref.whole cc0_stg1_0
abbrev oM : Memref sig .tc .vmem S512x512 .f32 := Memref.whole cc0_stg2_0
abbrev sM : Memref sig .tc .vmem S3x256x512 .f32 := Memref.whole cc0_scratch0
abbrev rM : Memref sig .tc .vmem S3x256x512 .f32 := Memref.whole cc0_scratch1

/-! ## Their blocks -/

theorem slot_inb (s : Fin 3) (k : Fin 4) : ∀ a, (![s.val, 64 * k.val, 0] : Fin 3 → ℕ) a + S1x64x512.size a ≤ S3x256x512.size a := by
  revert s k; decide

abbrev slotRect (s : Fin 3) (k : Fin 4) : Rect S3x256x512 := Rect.unit (s := S3x256x512) ![s.val, 64 * k.val, 0] S1x64x512.size (slot_inb s k)
abbrev srcRect (c : Dev nD) (k : Fin 4) : Rect S2048x512 :=
  Rect.unit (s := S2048x512) (k0_off1 c (BitVec.ofNat 32 (64 * k.val))) S64x512.size (k0_off1_inb c k)
abbrev chunkRect (c : Dev nD) (r : Fin 3) (k : Fin 4) : Rect S2048x512 :=
  Rect.unit (s := S2048x512) (k0_off2 c (BitVec.ofNat 32 r.val) (BitVec.ofNat 32 (64 * k.val))) S64x512.size (k0_off2_inb c r k)
abbrev outRect (c : Dev nD) (k : Fin 4) : Rect S512x512 :=
  Rect.unit (s := S512x512) (k0_off4 c (BitVec.ofNat 32 (64 * k.val))) S64x512.size (k0_off4_inb c k)

/-- Block k of step s in the send and in the receive buffer, as the copies see them. -/
abbrev SM (s : Fin 3) (k : Fin 4) : Memref sig .tc .vmem S64x512 .f32 :=
  (sM.slice (slotRect s k) (fun _ => rfl)).squeeze S64x512 squeezes_S1x64x512_S64x512
abbrev RM (s : Fin 3) (k : Fin 4) : Memref sig .tc .vmem S64x512 .f32 :=
  (rM.slice (slotRect s k) (fun _ => rfl)).squeeze S64x512 squeezes_S1x64x512_S64x512
/-- Block k of the rows of the input that device c sends first. -/
abbrev PM (c : Dev nD) (k : Fin 4) : Memref sig .tc .vmem S64x512 .f32 := pM.slice (srcRect c k) (fun _ => rfl)
/-- Block k of the half of the result that device c finishes. -/
abbrev OM (c : Dev nD) (k : Fin 4) : Memref sig .tc .vmem S64x512 .f32 := oM.slice (outRect c k) (fun _ => rfl)

/-! ## What they hold -/

variable (m : (ℓ : Loc nD τ sig) → Buf (Elt F) ℓ)

/-- Device c's input and scale as the kernel finds them. -/
def X (c : Dev nD) : S2048x512.Idx → Elt F .f32 := V m c main_v1
def G (c : Dev nD) : S1x512.Idx → Elt F .f32 := V m c main_v2

/-- Block k of device c's own rows for the chunk r places ahead. -/
def chunk (c : Dev nD) (r : Fin 3) (k : Fin 4) : Vec F S64x512 .f32 := pM.view.readAt (Elt F) (chunkRect c r k).toLoadRect (X m c)

/-- The chunk added after step s: two places ahead, one ahead, the own one. -/
def ahead : ℕ → Fin 3
  | 0 => 2
  | 1 => 1
  | _ => 0

/-- What device c sends in step s: at first its own rows for the chunk three places ahead, later what arrived
    in the step before with its own rows for that chunk added. -/
def sent : ℕ → Dev nD → Fin 4 → Vec F S64x512 .f32
  | 0, c, k => (PM c k).view.read (Elt F) (X m c)
  | s + 1, c, k => shapeCast S64x512 (k0_pay1 (shapeCast S1x64x512 (sent s (lft c) k) shapeCasts_S64x512_S1x64x512) (chunk m c (ahead s) k)) shapeCasts_S1x64x512_S64x512

/-- What arrives on device c in step s. -/
def landed (c : Dev nD) (s : Fin 3) (k : Fin 4) : Vec F S64x512 .f32 := sent m s.val (lft c) k

/-- The finished block: the last arrival with the own rows added, normalised by its root mean square and scaled. -/
def outBlk (c : Dev nD) (k : Fin 4) : Vec F S64x512 .f32 :=
  k0_pay10 (shapeCast S1x64x512 (landed m c 2 k) shapeCasts_S64x512_S1x64x512) (chunk m c 0 k) (G m c)

/-! ## Reading and writing the blocks -/

theorem slot_read (f : S3x256x512.Idx → Elt F .f32) (s : Fin 3) (k : Fin 4) :
    rM.view.readAt (Elt F) (slotRect s k).toLoadRect f = shapeCast S1x64x512 ((RM s k).view.read (Elt F) f) shapeCasts_S64x512_S1x64x512 :=
  (shapeCast_shapeCast (rM.view.readAt (Elt F) (slotRect s k).toLoadRect f) shapeCasts_S1x64x512_S64x512 shapeCasts_S64x512_S1x64x512).symm

theorem slot_write (f : S3x256x512.Idx → Elt F .f32) (s : Fin 3) (k : Fin 4) (w : Vec F S1x64x512 .f32) :
    (SM s k).view.read (Elt F) ((sM.access (slotRect s k)).write (Elt F) f w Finset.univ) = shapeCast S64x512 w shapeCasts_S1x64x512_S64x512 := by
  have h : (SM s k).view.read (Elt F) ((sM.access (slotRect s k)).write (Elt F) f w Finset.univ)
      = shapeCast S64x512 ((sM.access (slotRect s k)).read (Elt F) ((sM.access (slotRect s k)).write (Elt F) f w Finset.univ)) shapeCasts_S1x64x512_S64x512 := rfl
  rw [h, View.read_write_univ]

theorem SM_set (s : Fin 3) (k : Fin 4) : (SM s k).view.set = (sM.access (slotRect s k)).set := View.set_reshape _ _
theorem RM_set (s : Fin 3) (k : Fin 4) : (RM s k).view.set = rM.view.setOn (slotRect s k).toLoadRect.set :=
  (View.set_reshape _ _).trans (View.set_slice _ _)

/-! ## The slots tile their buffers, the blocks of the two halves the result -/

theorem slot_disjoint (t t' : Fin 3 × Fin 4) (h : t ≠ t') : Disjoint (slotRect t.1 t.2).set (slotRect t'.1 t'.2).set := by
  rw [Finset.disjoint_left]
  intro i hi hi'
  have a := Rect.mem_set_unit.mp hi
  have b := Rect.mem_set_unit.mp hi'
  have a0 := a 0; have a1 := a 1; have b0 := b 0; have b1 := b 1
  simp at a0 a1 b0 b1
  exact h (Prod.ext (Fin.ext (by omega)) (Fin.ext (by omega)))

theorem slot_cover : (Finset.univ : Finset (Fin 3 × Fin 4)).biUnion (fun t => (slotRect t.1 t.2).set) = Finset.univ := by
  refine Finset.eq_univ_iff_forall.mpr fun i => Finset.mem_biUnion.mpr ?_
  have h0 : (i 0).val < 3 := (i 0).isLt
  have h1 : (i 1).val < 256 := (i 1).isLt
  have h2 : (i 2).val < 512 := (i 2).isLt
  refine ⟨(⟨(i 0).val, h0⟩, ⟨(i 1).val / 64, by omega⟩), Finset.mem_univ _, Rect.mem_set_unit.mpr fun a => ?_⟩
  fin_cases a
  · show (i 0).val ≤ (i 0).val ∧ (i 0).val < (i 0).val + 1; omega
  · show 64 * ((i 1).val / 64) ≤ (i 1).val ∧ (i 1).val < 64 * ((i 1).val / 64) + 64; omega
  · show 0 ≤ (i 2).val ∧ (i 2).val < 0 + 512; omega

/-- The blocks of c's half (at 0) and of the half its peer over x sends (at 1). -/
abbrev half (c : Dev nD) (h : Fin 2) : Dev nD := if h = 0 then c else xp c
abbrev outPart (c : Dev nD) (t : Fin 2 × Fin 4) : Rect S512x512 := outRect (half c t.1) t.2

theorem mem_outRect (c : Dev nD) (k : Fin 4) (i : S512x512.Idx) :
    i ∈ (outRect c k).set ↔ 256 * cx c + 64 * k.val ≤ (i 0).val ∧ (i 0).val < 256 * cx c + 64 * k.val + 64 := by
  rw [Rect.mem_set_unit, off_out]
  have h2 : (i 1).val < 512 := (i 1).isLt
  constructor
  · intro h; exact h 0
  · intro h a
    fin_cases a
    · exact h
    · show 0 ≤ (i 1).val ∧ (i 1).val < 0 + 512; omega

theorem cx_half (c : Dev nD) (h : Fin 2) : cx (half c h) = if h = 0 then cx c else 1 - cx c := by
  unfold half; split
  · rfl
  · exact cx_xp c

theorem out_disjoint (c : Dev nD) (t t' : Fin 2 × Fin 4) (h : t ≠ t') : Disjoint (outPart c t).set (outPart c t').set := by
  rw [Finset.disjoint_left]
  intro i hi hi'
  rw [mem_outRect, cx_half] at hi hi'
  have := cx_lt c
  obtain ⟨⟨a, ha⟩, ⟨k, hk⟩⟩ := t
  obtain ⟨⟨a', ha'⟩, ⟨k', hk'⟩⟩ := t'
  simp only [Fin.ext_iff, Fin.val_zero] at hi hi'
  refine h (Prod.ext (Fin.ext ?_) (Fin.ext ?_)) <;> simp only <;> split at hi <;> split at hi' <;> omega

theorem out_cover (c : Dev nD) : (Finset.univ : Finset (Fin 2 × Fin 4)).biUnion (fun t => (outPart c t).set) = Finset.univ := by
  refine Finset.eq_univ_iff_forall.mpr fun i => Finset.mem_biUnion.mpr ?_
  have h0 : (i 0).val < 512 := (i 0).isLt
  have := cx_lt c
  by_cases h : (i 0).val / 256 = cx c
  · refine ⟨(0, ⟨(i 0).val % 256 / 64, by omega⟩), Finset.mem_univ _, ?_⟩
    rw [mem_outRect, cx_half, if_pos rfl]
    simp only; omega
  · refine ⟨(1, ⟨(i 0).val % 256 / 64, by omega⟩), Finset.mem_univ _, ?_⟩
    rw [mem_outRect, cx_half, if_neg (show ¬ ((1 : Fin 2) = 0) by decide)]
    simp only; omega

end Cert.KernelIdeal.Run
-- ==== Proof.Sched.lean ====
/-
  The protocol.

  Per device: one barrier cell, and for every block a cell for each end of each copy. All cells live for one round.

    barrier       three signals of 1: the right neighbour hands over its receive slots, the left one nothing, the peer over x
                  the rows of its result that it does not compute; one wait of 3
    send (s, k)   raised by the device's own copy once the source is read; hands the source back
    recv (s, k)   raised by the left neighbour's copy; hands over the slot, holding `landed m c s k`
    xsend k       raised by the device's own copy over x; hands back the block, holding `outBlk m c k`
    xrecv k       raised by the peer's copy; hands over the block of the other half, holding `outBlk m (xp c) k`

  A device owes nineteen payments to others' cells: the three signals, the twelve copies to the right in the order
  (0,0) … (2,3), the four copies over x. Payment i ≥ 3 has level i - 1, the barrier level 1: every wait on a cell stands
  below all payments still owed.
-/
module

public import proofs.«01_k».proof.Proof.Blocks
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Transfers
public import Idealize.ShloMosaic.Lib.StableHlo
public import Idealize.ShloMosaic.Lib.Tactic
public import Idealize.ShloMosaic.PureOps
public import Idealize.ShloMosaic.Harness.Basic

@[expose] public section

set_option maxRecDepth 16384

noncomputable section

namespace Cert.KernelIdeal.Run

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds (URounds)

variable {F : FTy → Type} [FloatOps F]

/-! ## The algebra: the pipeline library's part and the protocol's -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## The cells -/

/-- The ends of a device's copies: send (s, k), recv (s, k), xsend k, xrecv k. -/
abbrev Ends : Type := (Fin 3 × Fin 4) ⊕ (Fin 3 × Fin 4) ⊕ Fin 4 ⊕ Fin 4

def endIx : Ends → Fin 35
  | .inl (s, k) => ⟨3 + 4 * s.val + k.val, by omega⟩
  | .inr (.inl (s, k)) => ⟨15 + 4 * s.val + k.val, by omega⟩
  | .inr (.inr (.inl k)) => ⟨27 + k.val, by omega⟩
  | .inr (.inr (.inr k)) => ⟨31 + k.val, by omega⟩

def role (i : Fin 35) : Option Ends :=
  if i.val < 3 then none
  else if i.val < 15 then some (.inl (⟨(i.val - 3) / 4 % 3, Nat.mod_lt _ (by decide)⟩, ⟨(i.val - 3) % 4, Nat.mod_lt _ (by decide)⟩))
  else if i.val < 27 then some (.inr (.inl (⟨(i.val - 15) / 4 % 3, Nat.mod_lt _ (by decide)⟩, ⟨(i.val - 15) % 4, Nat.mod_lt _ (by decide)⟩)))
  else if i.val < 31 then some (.inr (.inr (.inl ⟨(i.val - 27) % 4, Nat.mod_lt _ (by decide)⟩)))
  else some (.inr (.inr (.inr ⟨(i.val - 31) % 4, Nat.mod_lt _ (by decide)⟩)))

theorem role_endIx : ∀ j : Ends, role (endIx j) = some j := by decide +kernel

abbrev barS : Sem sig := sig.barrier 0 rfl
abbrev osem (j : Ends) : SemLoc sig := .dma (endIx j)
abbrev sendS (s : Fin 3) (k : Fin 4) : SemLoc sig := osem (.inl (s, k))
abbrev recvS (s : Fin 3) (k : Fin 4) : SemLoc sig := osem (.inr (.inl (s, k)))
abbrev xsendS (k : Fin 4) : SemLoc sig := osem (.inr (.inr (.inl k)))
abbrev xrecvS (k : Fin 4) : SemLoc sig := osem (.inr (.inr (.inr k)))

theorem osem_inj : Function.Injective osem := by
  intro i j h
  have h' : endIx i = endIx j := by injection h
  have := congrArg role h'
  rw [role_endIx, role_endIx] at this
  exact Option.some.inj this

abbrev cellAt (c : Dev nD) (sm : SemLoc sig) : GSem nD τ sig := ((c : Thread nD τ), sm)

/-- The units one copy of a block raises. -/
abbrev N : ℕ := (RM 0 0).view.dmaCredit
theorem N_pos : 0 < N := View.dmaCredit_pos _ (by decide)

/-! ## What the cells hand over -/

variable (m : (ℓ : Loc nD τ sig) → Buf (Elt F) ℓ)

/-- A block of device d at contents not named. -/
def anyAt (d : Dev nD) (M : Memref sig .tc .vmem S64x512 .f32) : sProp 𝕄 :=
  iprop(∃ f, M.view.loc (d : Thread nD τ) ↦[M.view.set]{fullShare} f)

/-- The share of device c's input that its k-th first copy reads. -/
abbrev pTok (k : Fin 4) : PosShare TreeShare := Transfers.shareTok fullShare 4 k
def pPart (c : Dev nD) (k : Fin 4) : sProp 𝕄 := (PM c k).view.loc (c : Thread nD τ) ↦[(PM c k).view.set]{pTok k} X m c

def barPay (c : Dev nD) (d : Fin 3) : sProp 𝕄 :=
  if d = 0 then bigSep Finset.univ fun t : Fin 3 × Fin 4 => iprop(anyAt (rgt c) (RM t.1 t.2) ∗ reached ER (cellAt (rgt c) (recvS t.1 t.2)) 0)
  else if d = 1 then iprop(emp)
  else bigSep Finset.univ fun k : Fin 4 => iprop(anyAt (xp c) (OM c k) ∗ reached ER (cellAt (xp c) (xrecvS k)) 0)

/-- The source of a copy to the right: a part of the input in step 0, a slot of the send buffer later. -/
def srcPay (c : Dev nD) (s : Fin 3) (k : Fin 4) : sProp 𝕄 := if s = 0 then pPart m c k else ownsTc c (SM s k) fullShare (sent m s.val c k)

def endPay (c : Dev nD) : Ends → sProp 𝕄
  | .inl (s, k) => srcPay m c s k
  | .inr (.inl (s, k)) => ownsTc c (RM s k) fullShare (landed m c s k)
  | .inr (.inr (.inl k)) => ownsTc c (OM c k) fullShare (outBlk m c k)
  | .inr (.inr (.inr k)) => ownsTc c (OM (xp c) k) fullShare (outBlk m (xp c) k)

def dmaPay (c : Dev nD) (i : Fin 35) : sProp 𝕄 := match role i with | some j => endPay m c j | none => iprop(emp)

def sched : Rounds.Schedule (GSem nD τ sig) (Fin 3) 𝕄 where
  duties g r := if r = 0 then (match g.2 with | .reg _ => Finset.univ | .dma _ => {0}) else ∅
  unitless _ := False
  amount g _ _ := match g.2 with | .reg _ => 1 | .dma _ => N
  payload g _ d := match g.2 with | .reg _ => barPay g.1.1 d | .dma i => dmaPay m g.1.1 i
  amount_pos g _ _ _ := by rcases g with ⟨t, sm⟩; cases sm; exacts [Nat.one_pos, N_pos]

instance anyAt_storable (d : Dev nD) (M : Memref sig .tc .vmem S64x512 .f32) : BI.Storable (upEmb : UEmb _ 𝕄) (anyAt d M) := by
  unfold anyAt; infer_instance

instance barPay_storable (c : Dev nD) (d : Fin 3) : BI.Storable (upEmb : UEmb _ 𝕄) (barPay (F := F) c d) := by
  unfold barPay; (repeat' split) <;> infer_instance

instance srcPay_storable (c : Dev nD) (s : Fin 3) (k : Fin 4) : BI.Storable (upEmb : UEmb _ 𝕄) (srcPay m c s k) := by
  unfold srcPay pPart; split <;> infer_instance

instance endPay_storable (c : Dev nD) (j : Ends) : BI.Storable (upEmb : UEmb _ 𝕄) (endPay m c j) := by
  rcases j with ⟨s, k⟩ | ⟨s, k⟩ | k | k
  · show BI.Storable upEmb (srcPay m c s k); infer_instance
  all_goals (unfold endPay; infer_instance)

instance sched_storable (g : GSem nD τ sig) (r : ℕ) (d : Fin 3) : BI.Storable (upEmb : UEmb _ 𝕄) ((sched m).payload g r d) := by
  rcases g with ⟨t, sm⟩
  cases sm with
  | reg s => show BI.Storable upEmb (barPay t.1 d); infer_instance
  | dma i =>
    show BI.Storable upEmb (dmaPay m t.1 i)
    unfold dmaPay; split <;> infer_instance

section Facts

variable (c : Dev nD)

theorem duties_bar : (sched m).duties (cellAt c (.reg barS)) 0 = Finset.univ := rfl
theorem duties_end (j : Ends) : (sched m).duties (cellAt c (osem j)) 0 = {0} := rfl
theorem duties_later (g : GSem nD τ sig) : ∀ r, 1 ≤ r → (sched m).duties g r = ∅ := fun r hr => if_neg (by omega)
theorem expect_bar : (sched m).expect (cellAt c (.reg barS)) 0 = 3 := by
  unfold Schedule.expect Schedule.amountOf; rw [duties_bar]; rfl
theorem expect_end (j : Ends) : (sched m).expect (cellAt c (osem j)) 0 = N := by
  unfold Schedule.expect Schedule.amountOf; rw [duties_end, Finset.sum_singleton]; rfl
theorem payload_bar (d : Fin 3) : (sched m).payload (cellAt c (.reg barS)) 0 d = barPay c d := rfl
theorem payload_end (j : Ends) (d : Fin 3) : (sched m).payload (cellAt c (osem j)) 0 d = endPay m c j := by
  show dmaPay m c (endIx j) = _
  unfold dmaPay; rw [role_endIx]

theorem rest_bar : bigSep ((sched m).duties (cellAt c (.reg barS)) 0 \ ∅) (fun d => (sched m).payload (cellAt c (.reg barS)) 0 d)
    = iprop(barPay c 0 ∗ barPay c 1 ∗ barPay c 2) := by
  rw [Finset.sdiff_empty, duties_bar, bigSep_univ_eq_bigSepL [0, 1, 2] (by decide) (by decide)]
  rfl
theorem rest_end (j : Ends) : bigSep ((sched m).duties (cellAt c (osem j)) 0 \ ∅) (fun d => (sched m).payload (cellAt c (osem j)) 0 d)
    = endPay m c j := by
  rw [Finset.sdiff_empty, duties_end, bigSep_singleton, payload_end]

end Facts

/-! ## What a device owes -/

/-- The nineteen payments in order: whom, onto which semaphore, how much. -/
def payTo (i : Fin 19) : Dev nD ≃ Dev nD :=
  if i.val = 0 then lftE else if i.val = 2 then xpE else if i.val < 15 then rgtE else xpE
def paySem (i : Fin 19) : SemLoc sig :=
  if i.val < 3 then .reg barS else if h : i.val < 15 then .dma ⟨i.val + 12, by show _ < 35; omega⟩ else .dma ⟨i.val + 16, by show _ < 35; omega⟩
def payAmt (i : Fin 19) : ℕ := if i.val < 3 then 1 else N

/-- What device c owes once the first n payments are made. -/
def owedAt (c : Dev nD) (n : ℕ) : CellTallies nD τ sig Unit :=
  ∑ i : Fin 19, if n ≤ i.val then tallyAt (cellAt (payTo i c) (paySem i)) () (payAmt i) else 0

theorem owed_pay (c : Dev nD) (i : Fin 19) :
    owedAt c i.val = owedAt c (i.val + 1) + tallyAt (cellAt (payTo i c) (paySem i)) () (payAmt i) := by
  unfold owedAt
  rw [← Finset.sum_erase_add _ _ (Finset.mem_univ i), if_pos le_rfl,
    ← Finset.sum_erase (s := Finset.univ) (a := i) (f := fun j : Fin 19 => if i.val + 1 ≤ j.val then tallyAt (cellAt (payTo j c) (paySem j)) () (payAmt j) else 0)
      (if_neg (by omega))]
  congr 1
  refine Finset.sum_congr rfl fun j hj => ?_
  have hne : j.val ≠ i.val := fun h => Finset.ne_of_mem_erase hj (Fin.ext h)
  by_cases h : i.val ≤ j.val
  · rw [if_pos h, if_pos (by omega)]
  · rw [if_neg h, if_neg (by omega)]

theorem owed_all (c : Dev nD) : owedAt c 19 = 0 := Finset.sum_eq_zero fun i _ => if_neg (by omega)

/-! ## The levels -/

def lvS : SemLoc sig → ℕ
  | .reg _ => 1
  | .dma i => if 15 ≤ i.val ∧ i.val < 27 then i.val - 13 else if 31 ≤ i.val then i.val - 17 else 0

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L (cellAt c sm) = {()} := if_pos rfl

theorem owed_pos {c : Dev nD} {n : ℕ} {g : GSem nD τ sig} {u : Unit} (h : 0 < owedAt c n g u) :
    ∃ i : Fin 19, n ≤ i.val ∧ g = cellAt (payTo i c) (paySem i) := by
  unfold owedAt at h
  rw [Finset.sum_apply, Finsupp.finset_sum_apply] at h
  obtain ⟨i, -, hi⟩ := Finset.exists_ne_zero_of_sum_ne_zero (Nat.pos_iff_ne_zero.mp h)
  refine ⟨i, ?_, ?_⟩
  · by_contra hn; rw [if_neg hn] at hi; exact hi rfl
  · by_contra hg
    apply hi
    split
    · rw [tallyAt_apply, if_neg (fun e => hg e.1)]
    · rfl

/-- A device may wait on a semaphore below all payments it still owes. -/
theorem mayWait (c : Dev nD) (sm : SemLoc sig) (n : ℕ) (h : ∀ i : Fin 19, n ≤ i.val → lvS sm < lvS (paySem i)) :
    (levAts L lv : sProp 𝕄) ⊢ MayWait (c : Thread nD τ) sm () (owedAt c n) :=
  MayOwe.of_cut (L := L) (lev := lv) (lvS sm) (fun p hp => by rw [Finset.mem_singleton.mp hp, L_tc]; exact Finset.mem_singleton_self _)
    (fun g u hg => by obtain ⟨i, -, rfl⟩ := owed_pos hg; rw [L_tc]; exact Finset.mem_singleton_self _)
    (fun p hp => by rw [Finset.mem_singleton.mp hp]; exact le_rfl)
    (fun g u hg => by obtain ⟨i, hi, rfl⟩ := owed_pos hg; exact h i hi)

/-! ## The credit at launch -/

/-- All that is ever paid onto the cell of one semaphore. -/
def credOf (sm : SemLoc sig) : ℕ := ∑ i : Fin 19, if sm = paySem i then payAmt i else 0

theorem owed_total (c : Dev nD) (sm : SemLoc sig) : ∑ d : Dev nD, owedAt d 0 (cellAt c sm) () = credOf sm := by
  unfold owedAt credOf
  have h : ∀ d : Dev nD, (∑ i : Fin 19, (if 0 ≤ i.val then tallyAt (cellAt (payTo i d) (paySem i)) () (payAmt i) else 0 : CellTallies nD τ sig Unit)) (cellAt c sm) ()
      = ∑ i : Fin 19, if d = (payTo i).symm c then (if sm = paySem i then payAmt i else 0) else 0 := fun d => by
    rw [Finset.sum_apply, Finsupp.finset_sum_apply]
    refine Finset.sum_congr rfl fun i _ => ?_
    rw [if_pos (Nat.zero_le _), tallyAt_apply]
    by_cases hd : d = (payTo i).symm c
    · rw [if_pos hd]
      have hc : payTo i d = c := by rw [hd]; exact Equiv.apply_symm_apply _ _
      by_cases hs : sm = paySem i
      · rw [if_pos hs, if_pos ⟨by rw [hc, hs], rfl⟩]
      · rw [if_neg hs, if_neg (fun e => hs (congrArg Prod.snd e.1))]
    · rw [if_neg hd, if_neg]
      rintro ⟨e, -⟩
      apply hd
      have : c = payTo i d := congrArg (fun g : GSem nD τ sig => g.1.1) e
      rw [this]; exact (Equiv.symm_apply_apply _ _).symm
  rw [Finset.sum_congr rfl fun d _ => h d, Finset.sum_comm]
  exact Finset.sum_congr rfl fun i _ => Finset.sum_ite_eq' Finset.univ _ _ |>.trans (if_pos (Finset.mem_univ _))

end Cert.KernelIdeal.Run
-- ==== Proof.Steps.lean ====
/-
  One rule for each kind of step of the body: a signal, a wait, a copy to another device, a load, a store. Each is stated
  once, for every block and step of the ring.
-/
module

public import proofs.«01_k».proof.Proof.Sched

@[expose] public section

set_option maxRecDepth 16384

noncomputable section

namespace Cert.KernelIdeal.Run

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds (URounds)

variable {F : FTy → Type} [FloatOps F]

local notation "𝕄" => MT nD τ sig Unit (Elt F) ℕ UU ℕ

variable (m : (ℓ : Loc nD τ sig) → Buf (Elt F) ℓ) (κ : GSem nD τ sig → ℕ)

abbrev 𝒱₀ : Variants := Variants.none

/-- The rest p of device c's body, run to Q. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- The invariants of all cells, that the barrier cells stand at their one round, the levels. -/
def known : sProp 𝕄 :=
  iprop((bigSep Finset.univ fun d : Dev nD => iprop(cellInv ER (sched m) (κ (cellAt d (.reg barS))) (cellAt d (.reg barS)) ∗ reached ER (cellAt d (.reg barS)) 0))
    ∗ (bigSep Finset.univ fun x : Dev nD × Ends => cellInv ER (sched m) (κ (cellAt x.1 (osem x.2))) (cellAt x.1 (osem x.2)))
    ∗ levAts L lv)

instance known_persistent : BI.Persistent (known m κ) := by unfold known; infer_instance

/-- One of a family, the rest dropped. -/
theorem oneOf {I : Type} [DecidableEq I] {S : Finset I} {i : I} (h : i ∈ S) {Φ : I → sProp 𝕄} : (bigSep S Φ : sProp 𝕄) ⊢ Φ i := bigSep_elim h

theorem known_bar (d : Dev nD) : known m κ ⊢ iprop(cellInv ER (sched m) (κ (cellAt d (.reg barS))) (cellAt d (.reg barS)) ∗ reached ER (cellAt d (.reg barS)) 0) := by
  unfold known
  iintro ⟨H, -⟩
  iapply (oneOf (Finset.mem_univ d)) $$ H

theorem known_end (d : Dev nD) (j : Ends) : known m κ ⊢ cellInv ER (sched m) (κ (cellAt d (osem j))) (cellAt d (osem j)) := by
  unfold known
  iintro ⟨-, H, -⟩
  iapply (oneOf (Φ := fun x : Dev nD × Ends => cellInv ER (sched m) (κ (cellAt x.1 (osem x.2))) (cellAt x.1 (osem x.2))) (Finset.mem_univ (d, j))) $$ H

theorem known_levels : known m κ ⊢ levAts L lv := by
  unfold known
  iintro ⟨-, -, H⟩
  iexact H

/-! ## What a device holds -/

/-- Device c owes what is left after n payments. -/
def owing (c : Dev nD) (n : ℕ) : sProp 𝕄 := iprop(∃ W, owes (c : Thread nD τ) (owedAt c n) W)

/-- The means to wait on end j. -/
def waitIn (c : Dev nD) (j : Ends) : sProp 𝕄 := iprop(atPos ER (cellAt c (osem j)) 0 ∅ 0 ∗ cred (tallyAt (cellAt c (osem j)) () N))
/-- End j is through. -/
def past (c : Dev nD) (j : Ends) : sProp 𝕄 := atPos ER (cellAt c (osem j)) (0 + 1) ∅ 0

/-- The means to copy: the own end j of the source, end j' of device d. -/
def srcEnd (c : Dev nD) (j : Ends) : sProp 𝕄 :=
  iprop(atPos ER (cellAt c (osem j)) 0 ∅ 0 ∗ reached ER (cellAt c (osem j)) 0 ∗ dutyTok ER (cellAt c (osem j)) 0 0)
def dstEnd (d : Dev nD) (j : Ends) (M : Memref sig .tc .vmem S64x512 .f32) : sProp 𝕄 :=
  iprop(dutyTok ER (cellAt d (osem j)) 0 0 ∗ anyAt d M ∗ reached ER (cellAt d (osem j)) 0)

variable {α : Type}

/-! ## The barrier -/

theorem step_signal {Q : α → sProp 𝕄} (c : Dev nD) (i : Fin 19) (u : Fin 3) {d : Dev nD} {sem : Sem sig} (hd : payTo i c = d) (hs : paySem i = .reg sem)
    (hb : sem = barS) (ha : payAmt i = 1) {w : BitVec 32} (hw : w = 1#32)
    {k : PUnit → Prog (TpuEff nD τ sig (Elt F) Λ₀ .tc) α} :
    iprop(known m κ ∗ owing c i.val ∗ dutyTok ER (cellAt d (.reg barS)) 0 u ∗ barPay d u)
      ⊢ iprop((owing c (i.val + 1) -∗ run c (k ⟨⟩) Q) -∗ run c (.op (.semSignal (Dev.tc d) sem w.toInt) k) Q) := by
  subst hb hd hw
  unfold owing
  iintro ⟨#HK, ⟨%W, HO⟩, Ht, Hp⟩ Hk
  ihave #HB := (known_bar m κ (payTo i c)) $$ HK
  icases HB with ⟨#HI, #HR⟩
  iapply (Rounds.wp_signal 𝒱₀ ER (sched m) (c : Thread nD τ) none (dst := (Dev.tc (payTo i c))) (sem := barS) (r := 0) (d := u) (κ := κ (cellAt (payTo i c) (.reg barS)))
      (Finset.mem_univ _) rfl () (O₀ := owedAt c i.val) (owedAt c (i.val + 1)) (by rw [owed_pay, hs, ha]; rfl) (W := W)) $$ [HO Ht Hp]
  · isplitr; · iexact HI
    isplitl [HO]; · iexact HO
    isplitl [Ht]; · iexact Ht
    isplitl [Hp]; · iapply (Entails.of_eq (payload_bar m (payTo i c) u).symm); iexact Hp
    iexact HR
  iintro HO
  iapply Hk
  iexists W; iexact HO

theorem step_barrier {Q : α → sProp 𝕄} (c : Dev nD) {sem : Sem sig} (hb : sem = barS) {w : BitVec 32} (hw : w = 3#32)
    {k : PUnit → Prog (TpuEff nD τ sig (Elt F) Λ₀ .tc) α} :
    iprop(known m κ ∗ owing c 3 ∗ atPos ER (cellAt c (.reg barS)) 0 ∅ 0 ∗ cred (tallyAt (cellAt c (.reg barS)) () 3))
      ⊢ iprop((owing c 3 ∗ atPos ER (cellAt c (.reg barS)) (0 + 1) ∅ 0 ∗ barPay c 0 ∗ barPay c 1 ∗ barPay c 2 -∗ run c (k ⟨⟩) Q)
        -∗ run c (.op (.semWait sem w.toInt) k) Q) := by
  subst hb hw
  unfold owing
  iintro ⟨#HK, ⟨%W, HO⟩, Ha, Hc⟩ Hk
  ihave #HB := (known_bar m κ c) $$ HK
  icases HB with ⟨#HI, -⟩
  iapply (Rounds.wp_wait_rest_token 𝒱₀ ER (sched m) (c : Thread nD τ) none (κ := κ (cellAt c (.reg barS)))
      (wpE_semWait_eq 𝒱₀ (c : Thread nD τ) none Set.univ) (Set.mem_univ _) () (O := owedAt c 3) (W := W) (R := 0) (m := 0) (T := ∅)
      ((Nat.zero_add _).trans (expect_bar m c).symm)) $$ [HO Ha Hc]
  · isplitr; · iexact HI
    isplitl [Hc]; · iexact Hc
    isplitl [HO]; · iexact HO
    isplitr
    · iapply (mayWait c (.reg barS) 3 (by decide)); iapply (known_levels m κ); iexact HK
    iexact Ha
  iintro ⟨HO, Ha, -, Hp⟩
  ihave Hp := (Entails.of_eq (rest_bar m c)) $$ Hp
  iapply Hk
  isplitl [HO]; · iexists _; iexact HO
  isplitl [Ha]; · iexact Ha
  iexact Hp

/-! ## The copies -/

theorem amount_end (M : Memref sig .tc .vmem S64x512 .f32) (i : DmaSem sig) : M.view.amount (.dma i) = M.view.dmaCredit := rfl

/-- A copy from device c's end j to end j' of device d, payment i. -/
theorem step_copy {Q : α → sProp 𝕄} (c : Dev nD) (i : Fin 19) (j j' : Ends) {d : Dev nD} {src dst : Memref sig .tc .vmem S64x512 .f32} {sS sem : DmaSem sig}
    (hd : payTo i c = d) (hs : paySem i = osem j') (ha : payAmt i = N) (hS : SemLoc.dma sS = osem j) (hD : SemLoc.dma sem = osem j')
    (hN : dst.view.dmaCredit = N) {hsc : dst.view.ref.isScScratch = false}
    {hx : src.view.WordExact} {hx' : dst.view.WordExact} {ht : DmaTarget.Typed .vmem (.dma sem) (.remote (Dev.tc d : Thread nD τ) dst (.dma sS) hsc)}
    {q : PosShare TreeShare} {fs : Buf (Elt F) (src.view.loc (c : Thread nD τ))}
    (hp : (src.view.loc (c : Thread nD τ) ↦[src.view.set]{q} fs) ⊢ endPay m c j)
    (hp' : ownsTc d dst fullShare (src.view.read (Elt F) fs) ⊢ endPay m d j')
    {k : PUnit → Prog (TpuEff nD τ sig (Elt F) Λ₀ .tc) α} :
    iprop(known m κ ∗ owing c i.val ∗ (src.view.loc (c : Thread nD τ) ↦[src.view.set]{q} fs) ∗ srcEnd c j ∗ dstEnd d j' dst)
      ⊢ iprop((owing c (i.val + 1) ∗ waitIn c j -∗ run c (k ⟨⟩) Q)
        -∗ run c (.op (.enqueueDma src (.remote (Dev.tc d) dst (.dma sS) hsc) (.dma sem) hx hx' ht) k) Q) := by
  subst hd
  unfold owing srcEnd dstEnd anyAt waitIn
  iintro ⟨#HK, ⟨%W, HO⟩, Hsrc, ⟨Ha, #Hr, Ht⟩, ⟨Ht', ⟨%fd, Hdst⟩, #Hr'⟩⟩ Hk
  ihave #HI := (known_end m κ c j) $$ HK
  ihave #HI' := (known_end m κ (payTo i c) j') $$ HK
  have hpay' : ((dst.view.loc (Dev.tc (payTo i c) : Thread nD τ) ↦[dst.view.set]{fullShare} (dst.view.write (Elt F) fd (src.view.read (Elt F) fs) Finset.univ)) : sProp 𝕄)
      ⊢ endPay m (payTo i c) j' :=
    ((owns_intro (Dev.tc (payTo i c) : Thread nD τ) dst fullShare _).trans (by rw [View.read_write_univ])).trans hp'
  iapply (Rounds.wp_send_pointsTo 𝒱₀ ER (sched m) (c : Thread nD τ) none (c' := (Dev.tc (payTo i c) : Thread nD τ)) (src := src) (dst := dst)
      (sS := .dma sS) (sem := .dma sem) (q := q) (fs := fs) (fd := fd) (κ₁ := κ (cellAt c (osem j))) (κ₂ := κ (cellAt (payTo i c) (osem j')))
      (r₁ := 0) (r₂ := 0) (d₁ := 0) (d₂ := 0)
      (by rw [hS, duties_end]; exact Finset.mem_singleton_self _) (by rw [hD, duties_end]; exact Finset.mem_singleton_self _)
      () () N hN rfl rfl (O₀ := owedAt c i.val) (owedAt c (i.val + 1)) (by rw [owed_pay, hs, ha, hD]) (W := W)
      (by rw [hS, payload_end]; exact hp) (by rw [hD, payload_end]; exact hpay')) $$ [HO Hsrc Hdst Ht Ht']
  · rw [hS, hD]
    isplitr; · iexact HI
    isplitr; · iexact HI'
    isplitl [Hsrc]; · iexact Hsrc
    isplitl [Hdst]; · iexact Hdst
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  isplitl [Ha]; · iexact Ha
  rw [hS]; iexact Hc

/-- The wait on end j once n payments are made. -/
theorem step_wait {Q : α → sProp 𝕄} (c : Dev nD) (n : ℕ) (j : Ends) {sem : DmaSem sig} {src dst : Memref sig .tc .vmem S64x512 .f32}
    (hn : ∀ i : Fin 19, n ≤ i.val → lvS (osem j) < lvS (paySem i)) (hS : SemLoc.dma sem = osem j) (hN : dst.view.dmaCredit = N)
    {hx : src.view.WordExact} {hx' : dst.view.WordExact} {k : PUnit → Prog (TpuEff nD τ sig (Elt F) Λ₀ .tc) α} :
    iprop(known m κ ∗ owing c n ∗ waitIn c j)
      ⊢ iprop((owing c n ∗ past c j ∗ endPay m c j -∗ run c (k ⟨⟩) Q)
        -∗ run c (.op (.waitDma2 sem src dst hx hx') k) Q) := by
  unfold owing waitIn past
  iintro ⟨#HK, ⟨%W, HO⟩, Ha, Hc⟩ Hk
  ihave #HI := (known_end m κ c j) $$ HK
  iapply (Rounds.wp_wait_rest_token 𝒱₀ ER (sched m) (c : Thread nD τ) none (κ := κ (cellAt c (osem j))) (sm := .dma sem) (k' := dst.view.dmaCredit)
      (wpE_waitDma2_eq 𝒱₀ (c : Thread nD τ) none Set.univ) (Set.mem_univ _) () (O := owedAt c n) (W := W) (R := 0) (m := 0) (T := ∅)
      (by rw [hS, hN]; exact (Nat.zero_add _).trans (expect_end m c j).symm)) $$ [HO Ha Hc]
  · rw [hS, hN]
    isplitr; · iexact HI
    isplitl [Hc]; · iexact Hc
    isplitl [HO]; · iexact HO
    isplitr
    · iapply (mayWait c (osem j) n hn); iapply (known_levels m κ); iexact HK
    iexact Ha
  rw [hS]
  iintro ⟨HO, Ha, -, Hp⟩
  ihave Hp := (Entails.of_eq (rest_end m c j)) $$ Hp
  iapply Hk
  isplitl [HO]; · iexists _; iexact HO
  isplitl [Ha]; · iexact Ha
  iexact Hp

/-! ## Loads and stores -/

theorem SM_setOn (s : Fin 3) (k : Fin 4) : (SM s k).view.set = sM.view.setOn (slotRect s k).toLoadRect.set :=
  (View.set_reshape _ _).trans (View.set_slice _ _)
theorem OM_setOn (c : Dev nD) (k : Fin 4) : (OM c k).view.set = oM.view.setOn (outRect c k).toLoadRect.set := View.set_slice _ _
theorem OM_access (c : Dev nD) (k : Fin 4) : (OM c k).view.set = (oM.access (outRect c k)).setOn Finset.univ := rfl

/-- The input under the share left beside the four that the first copies read. -/
def pRest (c : Dev nD) : sProp 𝕄 := pM.view.loc (c : Thread nD τ) ↦[Finset.univ]{Transfers.shareDrop fullShare 4} X m c
def gAll (c : Dev nD) : sProp 𝕄 := gM.view.loc (c : Thread nD τ) ↦[Finset.univ]{fullShare} G m c

/-- A load of an arrived slot. -/
theorem step_load_slot {Q : α → sProp 𝕄} (c : Dev nD) (s : Fin 3) (k : Fin 4) {v : Vec F S64x512 .f32} {hl : rM.view.LoadsAt (slotRect s k).toLoadRect}
    {p : (S1x64x512.Idx → Elt F .f32) → Prog (TpuEff nD τ sig (Elt F) Λ₀ .tc) α} :
    ownsTc c (RM s k) fullShare v
      ⊢ iprop((ownsTc c (RM s k) fullShare v -∗ run c (p (shapeCast S1x64x512 v shapeCasts_S64x512_S1x64x512)) Q)
        -∗ run c (.op (.load rM (slotRect s k).toLoadRect hl) p) Q) := by
  unfold ownsTc owns
  iintro ⟨%f, %hf, H⟩ Hk
  subst hf
  iapply (wp_load (c := (c : Thread nD τ)) (m := rM) (r := (slotRect s k).toLoadRect) (S := (RM s k).view.set) (f := f) 𝒱₀ none Set.univ (by rw [RM_set])) $$ [H]
  · iexact H
  iintro H
  rw [slot_read]
  iapply Hk
  iexists f; isplitr; · ipureintro; rfl
  iexact H

/-- A load of the own rows for the chunk r places ahead. -/
theorem step_load_chunk {Q : α → sProp 𝕄} (c : Dev nD) (r : Fin 3) (k : Fin 4) {hl : pM.view.LoadsAt (chunkRect c r k).toLoadRect}
    {p : (S64x512.Idx → Elt F .f32) → Prog (TpuEff nD τ sig (Elt F) Λ₀ .tc) α} :
    pRest m c ⊢ iprop((pRest m c -∗ run c (p (chunk m c r k)) Q) -∗ run c (.op (.load pM (chunkRect c r k).toLoadRect hl) p) Q) := by
  unfold pRest
  exact wp_load (c := (c : Thread nD τ)) (m := pM) (r := (chunkRect c r k).toLoadRect) 𝒱₀ none Set.univ (Finset.subset_univ _)

theorem step_load_scale {Q : α → sProp 𝕄} (c : Dev nD) {hl : gM.view.LoadsAt (Rect.unit (s := S1x512) ![0, 0] S1x512.size inb_S1x512_S1x512_0_0).toLoadRect}
    {p : (S1x512.Idx → Elt F .f32) → Prog (TpuEff nD τ sig (Elt F) Λ₀ .tc) α} :
    gAll m c ⊢ iprop((gAll m c -∗ run c (p (G m c)) Q)
      -∗ run c (.op (.load gM (Rect.unit (s := S1x512) ![0, 0] S1x512.size inb_S1x512_S1x512_0_0).toLoadRect hl) p) Q) := by
  have h : gM.view.readAt (Elt F) (Rect.unit (s := S1x512) ![0, 0] S1x512.size inb_S1x512_S1x512_0_0).toLoadRect (G m c) = G m c :=
    Memref.readAt_unit_zero (Elt F) cc0_stg1_0 (by decide) _ (G m c)
  unfold gAll
  have := wp_load (c := (c : Thread nD τ)) (m := gM) (r := (Rect.unit (s := S1x512) ![0, 0] S1x512.size inb_S1x512_S1x512_0_0).toLoadRect) (hl := hl) (k := p) (Γ := .empty) (defs := defs₀ (F := F)) (Q := Q) (q := fullShare) (f := G m c) 𝒱₀ none Set.univ (Finset.subset_univ _)
  rw [h] at this
  exact this

/-- A load of a block of the send buffer, before it is overwritten; what it gives is not used. -/
theorem step_peek_slot {Q : α → sProp 𝕄} (c : Dev nD) (s : Fin 3) (k : Fin 4) {hl : sM.view.LoadsAt (slotRect s k).toLoadRect}
    {p : (S1x64x512.Idx → Elt F .f32) → Prog (TpuEff nD τ sig (Elt F) Λ₀ .tc) α} :
    anyAt c (SM s k) ⊢ iprop((∀ x, anyAt c (SM s k) -∗ run c (p x) Q) -∗ run c (.op (.load sM (slotRect s k).toLoadRect hl) p) Q) := by
  unfold anyAt
  iintro ⟨%f, H⟩ Hk
  iapply (wp_load (c := (c : Thread nD τ)) (m := sM) (r := (slotRect s k).toLoadRect) (S := (SM s k).view.set) (f := f) 𝒱₀ none Set.univ
    (by rw [SM_setOn])) $$ [H]
  · iexact H
  iintro H
  iapply Hk
  iexists f; iexact H

theorem step_store_slot {Q : α → sProp 𝕄} (c : Dev nD) (s : Fin 3) (k : Fin 4) {w : S1x64x512.Idx → Elt F .f32} {v : Vec F S64x512 .f32}
    (hv : shapeCast S64x512 w shapeCasts_S1x64x512_S64x512 = v)
    {hx : (sM.access (slotRect s k)).Stores Finset.univ} {hm : (Finset.univ : Finset (slotRect s k).shape.Idx) = Finset.univ ∨ ∀ a, (slotRect s k).stride a = 1}
    {p : PUnit → Prog (TpuEff nD τ sig (Elt F) Λ₀ .tc) α} :
    anyAt c (SM s k) ⊢ iprop((ownsTc c (SM s k) fullShare v -∗ run c (p ⟨⟩) Q) -∗ run c (.op (.store sM (slotRect s k) w Finset.univ hx hm) p) Q) := by
  subst hv
  unfold anyAt ownsTc owns
  iintro ⟨%f, H⟩ Hk
  iapply (wp_store (c := (c : Thread nD τ)) (m := sM) (r := slotRect s k) (w := w) (Mk := Finset.univ) (hx := hx) (hm := hm) (S := (SM s k).view.set) (f := f) 𝒱₀ none Set.univ
    (by rw [SM_set]; exact subset_rfl)) $$ [H]
  · iexact H
  iintro H
  iapply Hk
  iexists _; isplitr
  · ipureintro; exact slot_write f s k w
  iexact H

/-- The same for a block of the result. -/
theorem step_peek_out {Q : α → sProp 𝕄} (c : Dev nD) (k : Fin 4) {off : Fin 2 → ℕ} {hb : ∀ a, off a + S64x512.size a ≤ S512x512.size a}
    (ho : off = k0_off4 c (BitVec.ofNat 32 (64 * k.val))) {hl : oM.view.LoadsAt (Rect.unit (s := S512x512) off S64x512.size hb).toLoadRect}
    {p : (S64x512.Idx → Elt F .f32) → Prog (TpuEff nD τ sig (Elt F) Λ₀ .tc) α} :
    anyAt c (OM c k) ⊢ iprop((∀ x, anyAt c (OM c k) -∗ run c (p x) Q)
      -∗ run c (.op (.load oM (Rect.unit (s := S512x512) off S64x512.size hb).toLoadRect hl) p) Q) := by
  subst ho
  unfold anyAt
  iintro ⟨%f, H⟩ Hk
  iapply (wp_load (c := (c : Thread nD τ)) (m := oM) (r := (outRect c k).toLoadRect) (S := (OM c k).view.set) (f := f) 𝒱₀ none Set.univ
    (by rw [OM_setOn])) $$ [H]
  · iexact H
  iintro H
  iapply Hk
  iexists f; iexact H

theorem step_store_out {Q : α → sProp 𝕄} (c : Dev nD) (k : Fin 4) {off : Fin 2 → ℕ} {hb : ∀ a, off a + S64x512.size a ≤ S512x512.size a}
    (ho : off = k0_off4 c (BitVec.ofNat 32 (64 * k.val))) {w v : S64x512.Idx → Elt F .f32} (hv : w = v)
    {hx : (oM.access (Rect.unit (s := S512x512) off S64x512.size hb)).Stores Finset.univ}
    {hm : (Finset.univ : Finset (Rect.unit (s := S512x512) off S64x512.size hb).shape.Idx) = Finset.univ ∨ ∀ a, (Rect.unit (s := S512x512) off S64x512.size hb).stride a = 1}
    {p : PUnit → Prog (TpuEff nD τ sig (Elt F) Λ₀ .tc) α} :
    anyAt c (OM c k) ⊢ iprop((ownsTc c (OM c k) fullShare v -∗ run c (p ⟨⟩) Q)
      -∗ run c (.op (.store oM (Rect.unit (s := S512x512) off S64x512.size hb) w Finset.univ hx hm) p) Q) := by
  subst ho hv
  unfold anyAt ownsTc owns
  iintro ⟨%f, H⟩ Hk
  iapply (wp_store (c := (c : Thread nD τ)) (m := oM) (r := outRect c k) (w := w) (Mk := Finset.univ) (hx := hx) (hm := hm) (S := (OM c k).view.set) (f := f) 𝒱₀ none Set.univ
    (OM_access c k).ge) $$ [H]
  · iexact H
  iintro H
  iapply Hk
  iexists ((oM.access (outRect c k)).write (Elt F) f w Finset.univ); isplitr
  · ipureintro; exact View.read_write_univ _ _
  iexact H

end Cert.KernelIdeal.Run
-- ==== Proof.Chain.lean ====
/-
  The life of a block. Block (s, k) of the ring goes from `fut` (nothing in the send slot yet) over `ready` (the source holds what
  is to be sent), `flying` (the copy is started) and `got` (the left neighbour's block has arrived) to `fin` (the own copy is
  through). Block k of the result goes the same way over x. Each step of the body moves one block by one place.
-/
module

public import proofs.«01_k».proof.Proof.Steps

@[expose] public section

set_option maxRecDepth 16384

noncomputable section

namespace Cert.KernelIdeal.Run

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds (URounds)

variable {F : FTy → Type} [FloatOps F]

local notation "𝕄" => MT nD τ sig Unit (Elt F) ℕ UU ℕ

variable (m : (ℓ : Loc nD τ sig) → Buf (Elt F) ℓ) (κ : GSem nD τ sig → ℕ)

abbrev sendE (s : Fin 3) (k : Fin 4) : Ends := .inl (s, k)
abbrev recvE (s : Fin 3) (k : Fin 4) : Ends := .inr (.inl (s, k))
abbrev xsendE (k : Fin 4) : Ends := .inr (.inr (.inl k))
abbrev xrecvE (k : Fin 4) : Ends := .inr (.inr (.inr k))

/-! ## The places of a block -/

/-- Nothing is sent from slot (0, k) of the send buffer: it stays aside. -/
def spare (c : Dev nD) (s : Fin 3) (k : Fin 4) : sProp 𝕄 := if s = 0 then anyAt c (SM s k) else iprop(emp)

def fut (c : Dev nD) (s : Fin 3) (k : Fin 4) : sProp 𝕄 :=
  iprop(srcEnd c (sendE s k) ∗ dstEnd (rgt c) (recvE s k) (RM s k) ∗ waitIn c (recvE s k) ∗ anyAt c (SM s k))
def ready (c : Dev nD) (s : Fin 3) (k : Fin 4) : sProp 𝕄 :=
  iprop(srcEnd c (sendE s k) ∗ dstEnd (rgt c) (recvE s k) (RM s k) ∗ waitIn c (recvE s k) ∗ srcPay m c s k ∗ spare c s k)
def flying (c : Dev nD) (s : Fin 3) (k : Fin 4) : sProp 𝕄 := iprop(waitIn c (sendE s k) ∗ waitIn c (recvE s k) ∗ spare c s k)
def got (c : Dev nD) (s : Fin 3) (k : Fin 4) : sProp 𝕄 :=
  iprop(waitIn c (sendE s k) ∗ past c (recvE s k) ∗ ownsTc c (RM s k) fullShare (landed m c s k) ∗ spare c s k)
def fin (c : Dev nD) (s : Fin 3) (k : Fin 4) : sProp 𝕄 :=
  iprop(past c (sendE s k) ∗ past c (recvE s k) ∗ ownsTc c (RM s k) fullShare (landed m c s k) ∗ srcPay m c s k ∗ spare c s k)

def xfut (c : Dev nD) (k : Fin 4) : sProp 𝕄 :=
  iprop(srcEnd c (xsendE k) ∗ dstEnd (xp c) (xrecvE k) (OM c k) ∗ waitIn c (xrecvE k) ∗ anyAt c (OM c k))
def xready (c : Dev nD) (k : Fin 4) : sProp 𝕄 :=
  iprop(srcEnd c (xsendE k) ∗ dstEnd (xp c) (xrecvE k) (OM c k) ∗ waitIn c (xrecvE k) ∗ ownsTc c (OM c k) fullShare (outBlk m c k))
def xflying (c : Dev nD) (k : Fin 4) : sProp 𝕄 := iprop(waitIn (F := F) c (xsendE k) ∗ waitIn c (xrecvE k))
def xgot (c : Dev nD) (k : Fin 4) : sProp 𝕄 :=
  iprop(waitIn c (xsendE k) ∗ past c (xrecvE k) ∗ ownsTc c (OM (xp c) k) fullShare (outBlk m (xp c) k))
def xfin (c : Dev nD) (k : Fin 4) : sProp 𝕄 :=
  iprop(past c (xsendE k) ∗ past c (xrecvE k) ∗ ownsTc c (OM (xp c) k) fullShare (outBlk m (xp c) k) ∗ ownsTc c (OM c k) fullShare (outBlk m c k))

variable {α : Type}

/-! ## The copies to the right -/

/-- Every block of 64 rows counts the same. -/
theorem credit (M : Memref sig .tc .vmem S64x512 .f32) : M.view.dmaCredit = N := rfl

/-- Where step s of the ring sends from. -/
abbrev srcM (c : Dev nD) (s : Fin 3) (k : Fin 4) : Memref sig .tc .vmem S64x512 .f32 := if s = 0 then PM c k else SM s k

/-- Payment 3 + 4s + k starts the copy of block (s, k). -/
abbrev payOf (s : Fin 3) (k : Fin 4) : Fin 19 := ⟨3 + 4 * s.val + k.val, by omega⟩
theorem payOf_to (c : Dev nD) : ∀ (s : Fin 3) (k : Fin 4), payTo (payOf s k) c = rgt c := by
  intro s k; unfold payTo; rw [if_neg (by simp only [payOf]; omega), if_neg (by simp only [payOf]; omega), if_pos (by simp only [payOf]; omega)]; rfl
theorem payOf_sem : ∀ (s : Fin 3) (k : Fin 4), paySem (payOf s k) = osem (recvE s k) := by decide +kernel
theorem payOf_amt (s : Fin 3) (k : Fin 4) : payAmt (payOf s k) = N := if_neg (by simp only [payOf]; omega)

theorem landed_rgt (c : Dev nD) (s : Fin 3) (k : Fin 4) : landed m (rgt c) s k = sent m s.val c k := by unfold landed; rw [lft_rgt]

theorem step_send {Q : α → sProp 𝕄} (c : Dev nD) (s : Fin 3) (k : Fin 4) {d : Dev nD} {src dst : Memref sig .tc .vmem S64x512 .f32} {sS sem : DmaSem sig}
    (hd : d = rgt c) (hsrc : src = srcM c s k) (hdst : dst = RM s k)
    (hS : SemLoc.dma sS = osem (sendE s k)) (hD : SemLoc.dma sem = osem (recvE s k)) {hsc : dst.view.ref.isScScratch = false}
    {hx : src.view.WordExact} {hx' : dst.view.WordExact} {ht : DmaTarget.Typed .vmem (.dma sem) (.remote (Dev.tc d : Thread nD τ) dst (.dma sS) hsc)}
    {p : PUnit → Prog (TpuEff nD τ sig (Elt F) Λ₀ .tc) α} :
    iprop(known m κ ∗ owing c (payOf s k).val ∗ ready m c s k)
      ⊢ iprop((owing c ((payOf s k).val + 1) ∗ flying c s k -∗ run c (p ⟨⟩) Q)
        -∗ run c (.op (.enqueueDma src (.remote (Dev.tc d) dst (.dma sS) hsc) (.dma sem) hx hx' ht) p) Q) := by
  subst hd hsrc hdst
  unfold ready flying
  iintro ⟨#HK, HO, Hs, Hd, Hw, Hp, Hx⟩ Hk
  have hsent : ∀ X, X = sent m s.val c k → (ownsTc (rgt c) (RM s k) fullShare X : sProp 𝕄) ⊢ endPay m (rgt c) (recvE s k) := fun X h => by
    subst h; rw [← landed_rgt]; exact .rfl
  by_cases h0 : s = 0
  · subst h0
    iapply (step_copy m κ c (payOf 0 k) (sendE 0 k) (recvE 0 k) (d := rgt c) (src := PM c k) (dst := RM 0 k) (q := pTok k) (fs := X m c)
      (payOf_to c 0 k) (payOf_sem 0 k) (payOf_amt 0 k) hS hD rfl (by show _ ⊢ srcPay m c 0 k; unfold srcPay; rw [if_pos rfl]; exact .rfl)
      (hsent _ rfl)) $$ [HO Hs Hd Hp]
    · isplitr; · iexact HK
      isplitl [HO]; · iexact HO
      isplitl [Hp]; · iapply (show srcPay m c 0 k ⊢ (PM c k).view.loc (c : Thread nD τ) ↦[(PM c k).view.set]{pTok k} X m c from Entails.of_eq (if_pos rfl)); iexact Hp
      isplitl [Hs] <;> iassumption
    iintro ⟨HO, Hs⟩
    iapply Hk
    isplitl [HO]; · iexact HO
    isplitl [Hs]; · iexact Hs
    isplitl [Hw] <;> iassumption
  · ihave Hp := (show srcPay m c s k ⊢ ownsTc c (SM s k) fullShare (sent m s.val c k) from Entails.of_eq (if_neg h0)) $$ Hp
    unfold ownsTc owns
    icases Hp with ⟨%f, %hf, Hp⟩
    have hm : srcM c s k = SM s k := if_neg h0
    revert hx ht
    rw [hm]
    intro hx ht
    iapply (step_copy m κ c (payOf s k) (sendE s k) (recvE s k) (d := rgt c) (src := SM s k) (dst := RM s k) (q := fullShare) (fs := f)
      (payOf_to c s k) (payOf_sem s k) (payOf_amt s k) hS hD rfl
      (by show _ ⊢ srcPay m c s k; unfold srcPay; rw [if_neg h0, ← hf]; exact owns_intro _ _ _ _)
      (hsent _ hf)) $$ [HO Hs Hd Hp]
    · isplitr; · iexact HK
      isplitl [HO]; · iexact HO
      isplitl [Hp]; · iexact Hp
      isplitl [Hs] <;> iassumption
    iintro ⟨HO, Hs⟩
    iapply Hk
    isplitl [HO]; · iexact HO
    isplitl [Hs]; · iexact Hs
    isplitl [Hw] <;> iassumption

theorem step_recv {Q : α → sProp 𝕄} (c : Dev nD) (n : ℕ) (s : Fin 3) (k : Fin 4) {sem : DmaSem sig} {src dst : Memref sig .tc .vmem S64x512 .f32}
    (hn : ∀ i : Fin 19, n ≤ i.val → lvS (osem (recvE s k)) < lvS (paySem i)) (hS : SemLoc.dma sem = osem (recvE s k)) (hN : dst.view.dmaCredit = N)
    {hx : src.view.WordExact} {hx' : dst.view.WordExact} {p : PUnit → Prog (TpuEff nD τ sig (Elt F) Λ₀ .tc) α} :
    iprop(known m κ ∗ owing c n ∗ flying c s k)
      ⊢ iprop((owing c n ∗ got m c s k -∗ run c (p ⟨⟩) Q) -∗ run c (.op (.waitDma2 sem src dst hx hx') p) Q) := by
  unfold flying got
  iintro ⟨HK, HO, Hs, Hw, Hx⟩ Hk
  iapply (step_wait m κ c n (recvE s k) hn hS hN) $$ [HK HO Hw]
  · isplitl [HK]; · iexact HK
    isplitl [HO] <;> iassumption
  iintro ⟨HO, Ha, Hp⟩
  ihave Hp := (show endPay m c (recvE s k) ⊢ ownsTc c (RM s k) fullShare (landed m c s k) from .rfl) $$ Hp
  iapply Hk
  isplitl [HO]; · iexact HO
  isplitl [Hs]; · iexact Hs
  isplitl [Ha]; · iexact Ha
  isplitl [Hp]; · iexact Hp
  iexact Hx

theorem step_sent {Q : α → sProp 𝕄} (c : Dev nD) (s : Fin 3) (k : Fin 4) {sem : DmaSem sig} {src dst : Memref sig .tc .vmem S64x512 .f32}
    (hS : SemLoc.dma sem = osem (sendE s k)) (hN : dst.view.dmaCredit = N)
    {hx : src.view.WordExact} {hx' : dst.view.WordExact} {p : PUnit → Prog (TpuEff nD τ sig (Elt F) Λ₀ .tc) α} :
    iprop(known m κ ∗ owing c 19 ∗ got m c s k)
      ⊢ iprop((owing c 19 ∗ fin m c s k -∗ run c (p ⟨⟩) Q) -∗ run c (.op (.waitDma2 sem src dst hx hx') p) Q) := by
  unfold fin got
  iintro ⟨HK, HO, Hs, Hw, Hr, Hx⟩ Hk
  iapply (step_wait m κ c 19 (sendE s k) (fun i h => absurd i.isLt (by omega)) hS hN) $$ [HK HO Hs]
  · isplitl [HK]; · iexact HK
    isplitl [HO] <;> iassumption
  iintro ⟨HO, Ha, Hp⟩
  ihave Hp := (show endPay m c (sendE s k) ⊢ srcPay m c s k from .rfl) $$ Hp
  iapply Hk
  isplitl [HO]; · iexact HO
  isplitl [Ha]; · iexact Ha
  isplitl [Hw]; · iexact Hw
  isplitl [Hr]; · iexact Hr
  isplitl [Hp]; · iexact Hp
  iexact Hx

/-! ## Between the copies -/

theorem step_load {Q : α → sProp 𝕄} (c : Dev nD) (s : Fin 3) (k : Fin 4) {hl : rM.view.LoadsAt (slotRect s k).toLoadRect}
    {p : (S1x64x512.Idx → Elt F .f32) → Prog (TpuEff nD τ sig (Elt F) Λ₀ .tc) α} :
    got m c s k
      ⊢ iprop((got m c s k -∗ run c (p (shapeCast S1x64x512 (landed m c s k) shapeCasts_S64x512_S1x64x512)) Q)
        -∗ run c (.op (.load rM (slotRect s k).toLoadRect hl) p) Q) := by
  unfold got
  iintro ⟨Hs, Ha, Hr, Hx⟩ Hk
  iapply (step_load_slot c s k (v := landed m c s k)) $$ [Hr]
  · iexact Hr
  iintro Hr
  iapply Hk
  isplitl [Hs]; · iexact Hs
  isplitl [Ha]; · iexact Ha
  isplitl [Hr] <;> iassumption

theorem step_peek {Q : α → sProp 𝕄} (c : Dev nD) (s : Fin 3) (k : Fin 4) {hl : sM.view.LoadsAt (slotRect s k).toLoadRect}
    {p : (S1x64x512.Idx → Elt F .f32) → Prog (TpuEff nD τ sig (Elt F) Λ₀ .tc) α} :
    fut c s k ⊢ iprop((∀ x, fut c s k -∗ run c (p x) Q) -∗ run c (.op (.load sM (slotRect s k).toLoadRect hl) p) Q) := by
  unfold fut
  iintro ⟨Hs, Hd, Hw, Hb⟩ Hk
  iapply (step_peek_slot c s k) $$ [Hb]
  · iexact Hb
  iintro %x Hb
  iapply Hk
  isplitl [Hs]; · iexact Hs
  isplitl [Hd]; · iexact Hd
  isplitl [Hw] <;> iassumption

theorem step_store {Q : α → sProp 𝕄} (c : Dev nD) (s : Fin 3) (k : Fin 4) (h0 : s ≠ 0) {w : S1x64x512.Idx → Elt F .f32}
    (hv : shapeCast S64x512 w shapeCasts_S1x64x512_S64x512 = sent m s.val c k)
    {hx : (sM.access (slotRect s k)).Stores Finset.univ} {hm : (Finset.univ : Finset (slotRect s k).shape.Idx) = Finset.univ ∨ ∀ a, (slotRect s k).stride a = 1}
    {p : PUnit → Prog (TpuEff nD τ sig (Elt F) Λ₀ .tc) α} :
    fut c s k ⊢ iprop((ready m c s k -∗ run c (p ⟨⟩) Q) -∗ run c (.op (.store sM (slotRect s k) w Finset.univ hx hm) p) Q) := by
  unfold fut ready spare srcPay
  rw [if_neg h0, if_neg h0]
  iintro ⟨Hs, Hd, Hw, Hb⟩ Hk
  iapply (step_store_slot c s k hv) $$ [Hb]
  · iexact Hb
  iintro Hb
  iapply Hk
  isplitl [Hs]; · iexact Hs
  isplitl [Hd]; · iexact Hd
  isplitl [Hw]; · iexact Hw
  isplitl [Hb]; · iexact Hb
  iempintro

/-! ## The result -/

theorem step_xpeek {Q : α → sProp 𝕄} (c : Dev nD) (k : Fin 4) {off : Fin 2 → ℕ} {hb : ∀ a, off a + S64x512.size a ≤ S512x512.size a}
    (ho : off = k0_off4 c (BitVec.ofNat 32 (64 * k.val))) {hl : oM.view.LoadsAt (Rect.unit (s := S512x512) off S64x512.size hb).toLoadRect}
    {p : (S64x512.Idx → Elt F .f32) → Prog (TpuEff nD τ sig (Elt F) Λ₀ .tc) α} :
    xfut c k ⊢ iprop((∀ x, xfut c k -∗ run c (p x) Q)
      -∗ run c (.op (.load oM (Rect.unit (s := S512x512) off S64x512.size hb).toLoadRect hl) p) Q) := by
  unfold xfut
  iintro ⟨Hs, Hd, Hw, Hb⟩ Hk
  iapply (step_peek_out c k ho) $$ [Hb]
  · iexact Hb
  iintro %x Hb
  iapply Hk
  isplitl [Hs]; · iexact Hs
  isplitl [Hd]; · iexact Hd
  isplitl [Hw] <;> iassumption

theorem step_xstore {Q : α → sProp 𝕄} (c : Dev nD) (k : Fin 4) {off : Fin 2 → ℕ} {hb : ∀ a, off a + S64x512.size a ≤ S512x512.size a}
    (ho : off = k0_off4 c (BitVec.ofNat 32 (64 * k.val))) {w : S64x512.Idx → Elt F .f32} (hv : w = outBlk m c k)
    {hx : (oM.access (Rect.unit (s := S512x512) off S64x512.size hb)).Stores Finset.univ}
    {hm : (Finset.univ : Finset (Rect.unit (s := S512x512) off S64x512.size hb).shape.Idx) = Finset.univ ∨ ∀ a, (Rect.unit (s := S512x512) off S64x512.size hb).stride a = 1}
    {p : PUnit → Prog (TpuEff nD τ sig (Elt F) Λ₀ .tc) α} :
    xfut c k ⊢ iprop((xready m c k -∗ run c (p ⟨⟩) Q)
      -∗ run c (.op (.store oM (Rect.unit (s := S512x512) off S64x512.size hb) w Finset.univ hx hm) p) Q) := by
  unfold xfut xready
  iintro ⟨Hs, Hd, Hw, Hb⟩ Hk
  iapply (step_store_out c k ho hv) $$ [Hb]
  · iexact Hb
  iintro Hb
  iapply Hk
  isplitl [Hs]; · iexact Hs
  isplitl [Hd]; · iexact Hd
  isplitl [Hw] <;> iassumption

/-- Payment 15 + k starts the copy of block k over x. -/
abbrev xpayOf (k : Fin 4) : Fin 19 := ⟨15 + k.val, by omega⟩
theorem xpayOf_to (c : Dev nD) (k : Fin 4) : payTo (xpayOf k) c = xp c := by
  unfold payTo; rw [if_neg (by simp only [xpayOf]; omega), if_neg (by simp only [xpayOf]; omega), if_neg (by simp only [xpayOf]; omega)]; rfl
theorem xpayOf_sem : ∀ k : Fin 4, paySem (xpayOf k) = osem (xrecvE k) := by decide +kernel
theorem xpayOf_amt (k : Fin 4) : payAmt (xpayOf k) = N := if_neg (by simp only [xpayOf]; omega)

theorem step_xsend {Q : α → sProp 𝕄} (c : Dev nD) (k : Fin 4) {d : Dev nD} {src dst : Memref sig .tc .vmem S64x512 .f32} {sS sem : DmaSem sig}
    (hd : d = xp c) (hsrc : src = OM c k) (hdst : dst = OM c k)
    (hS : SemLoc.dma sS = osem (xsendE k)) (hD : SemLoc.dma sem = osem (xrecvE k)) {hsc : dst.view.ref.isScScratch = false}
    {hx : src.view.WordExact} {hx' : dst.view.WordExact} {ht : DmaTarget.Typed .vmem (.dma sem) (.remote (Dev.tc d : Thread nD τ) dst (.dma sS) hsc)}
    {p : PUnit → Prog (TpuEff nD τ sig (Elt F) Λ₀ .tc) α} :
    iprop(known m κ ∗ owing c (xpayOf k).val ∗ xready m c k)
      ⊢ iprop((owing c ((xpayOf k).val + 1) ∗ xflying c k -∗ run c (p ⟨⟩) Q)
        -∗ run c (.op (.enqueueDma src (.remote (Dev.tc d) dst (.dma sS) hsc) (.dma sem) hx hx' ht) p) Q) := by
  subst hd hsrc hdst
  unfold xready xflying
  iintro ⟨#HK, HO, Hs, Hd, Hw, Hp⟩ Hk
  unfold ownsTc owns
  icases Hp with ⟨%f, %hf, Hp⟩
  iapply (step_copy m κ c (xpayOf k) (xsendE k) (xrecvE k) (d := xp c) (src := OM c k) (dst := OM c k) (q := fullShare) (fs := f)
    (xpayOf_to c k) (xpayOf_sem k) (xpayOf_amt k) hS hD rfl
    (by show _ ⊢ ownsTc c (OM c k) fullShare (outBlk m c k); rw [← hf]; exact owns_intro _ _ _ _)
    (by show _ ⊢ ownsTc (xp c) (OM (xp (xp c)) k) fullShare (outBlk m (xp (xp c)) k); rw [xp_xp, hf])) $$ [HO Hs Hd Hp]
  · isplitr; · iexact HK
    isplitl [HO]; · iexact HO
    isplitl [Hp]; · iexact Hp
    isplitl [Hs] <;> iassumption
  iintro ⟨HO, Hs⟩
  iapply Hk
  isplitl [HO]; · iexact HO
  isplitl [Hs] <;> iassumption

theorem step_xrecv {Q : α → sProp 𝕄} (c : Dev nD) (k : Fin 4) {sem : DmaSem sig} {src dst : Memref sig .tc .vmem S64x512 .f32}
    (hS : SemLoc.dma sem = osem (xrecvE k)) (hN : dst.view.dmaCredit = N)
    {hx : src.view.WordExact} {hx' : dst.view.WordExact} {p : PUnit → Prog (TpuEff nD τ sig (Elt F) Λ₀ .tc) α} :
    iprop(known m κ ∗ owing c 19 ∗ xflying c k)
      ⊢ iprop((owing c 19 ∗ xgot m c k -∗ run c (p ⟨⟩) Q) -∗ run c (.op (.waitDma2 sem src dst hx hx') p) Q) := by
  unfold xflying xgot
  iintro ⟨HK, HO, Hs, Hw⟩ Hk
  iapply (step_wait m κ c 19 (xrecvE k) (fun i h => absurd i.isLt (by omega)) hS hN) $$ [HK HO Hw]
  · isplitl [HK]; · iexact HK
    isplitl [HO] <;> iassumption
  iintro ⟨HO, Ha, Hp⟩
  ihave Hp := (show endPay m c (xrecvE k) ⊢ ownsTc c (OM (xp c) k) fullShare (outBlk m (xp c) k) from .rfl) $$ Hp
  iapply Hk
  isplitl [HO]; · iexact HO
  isplitl [Hs]; · iexact Hs
  isplitl [Ha] <;> iassumption

theorem step_xsent {Q : α → sProp 𝕄} (c : Dev nD) (k : Fin 4) {sem : DmaSem sig} {src dst : Memref sig .tc .vmem S64x512 .f32}
    (hS : SemLoc.dma sem = osem (xsendE k)) (hN : dst.view.dmaCredit = N)
    {hx : src.view.WordExact} {hx' : dst.view.WordExact} {p : PUnit → Prog (TpuEff nD τ sig (Elt F) Λ₀ .tc) α} :
    iprop(known m κ ∗ owing c 19 ∗ xgot m c k)
      ⊢ iprop((owing c 19 ∗ xfin m c k -∗ run c (p ⟨⟩) Q) -∗ run c (.op (.waitDma2 sem src dst hx hx') p) Q) := by
  unfold xgot xfin
  iintro ⟨HK, HO, Hs, Hw, Hr⟩ Hk
  iapply (step_wait m κ c 19 (xsendE k) (fun i h => absurd i.isLt (by omega)) hS hN) $$ [HK HO Hs]
  · isplitl [HK]; · iexact HK
    isplitl [HO] <;> iassumption
  iintro ⟨HO, Ha, Hp⟩
  ihave Hp := (show endPay m c (xsendE k) ⊢ ownsTc c (OM c k) fullShare (outBlk m c k) from .rfl) $$ Hp
  iapply Hk
  isplitl [HO]; · iexact HO
  isplitl [Ha]; · iexact Ha
  isplitl [Hw]; · iexact Hw
  isplitl [Hr] <;> iassumption

/-! ## Between an arrival and the next copy -/

/-- The same rules with their premises one by one. -/
theorem curry {A B C D : sProp 𝕄} (h : iprop(A ∗ B ∗ C) ⊢ D) : A ⊢ iprop(B -∗ C -∗ D) := by
  iintro HA HB HC
  iapply h
  isplitl [HA]; · iexact HA
  isplitl [HB] <;> iassumption

/-- Nothing is left to run. -/
theorem step_ret {Q : α → sProp 𝕄} (c : Dev nD) (a : α) : Q a ⊢ run (F := F) c (.ret a) Q := by
  unfold run
  rw [wp_ret]
  exact fupd_intro

theorem run_bind {β : Type} {Q : β → sProp 𝕄} (c : Dev nD) (p : Prog (TpuEff nD τ sig (Elt F) Λ₀ .tc) α) (k : α → Prog (TpuEff nD τ sig (Elt F) Λ₀ .tc) β) :
    run (F := F) c p (fun a => run c (k a) Q) ⊢ run c (p.bind k) Q :=
  Entails.of_eq (wp_bind _ _ _ _ _ _).symm

/-- An arrived block and the own rows for the same chunk are loaded. -/
theorem step_take {Q : α → sProp 𝕄} (c : Dev nD) (s : Fin 3) (k : Fin 4) {hl : rM.view.LoadsAt (slotRect s k).toLoadRect}
    {hl' : pM.view.LoadsAt (chunkRect c (ahead s.val) k).toLoadRect}
    {p : (S1x64x512.Idx → Elt F .f32) → (S64x512.Idx → Elt F .f32) → Prog (TpuEff nD τ sig (Elt F) Λ₀ .tc) α} :
    got m c s k ⊢ iprop(pRest m c
      -∗ (got m c s k ∗ pRest m c -∗ run c (p (shapeCast S1x64x512 (landed m c s k) shapeCasts_S64x512_S1x64x512) (chunk m c (ahead s.val) k)) Q)
      -∗ run c (.op (.load rM (slotRect s k).toLoadRect hl) fun v => .op (.load pM (chunkRect c (ahead s.val) k).toLoadRect hl') (p v)) Q) := by
  iintro H Hp Hk
  iapply (step_load m c s k) $$ H
  iintro H
  iapply (step_load_chunk m c (ahead s.val) k) $$ Hp
  iintro Hp
  iapply Hk
  isplitl [H] <;> iassumption

/-- A block of the send buffer is filled. -/
theorem step_put {Q : α → sProp 𝕄} (c : Dev nD) (s : Fin 3) (k : Fin 4) (h0 : s ≠ 0) {w : S1x64x512.Idx → Elt F .f32}
    (hv : shapeCast S64x512 w shapeCasts_S1x64x512_S64x512 = sent m s.val c k) {hl : sM.view.LoadsAt (slotRect s k).toLoadRect}
    {hx : (sM.access (slotRect s k)).Stores Finset.univ} {hm : (Finset.univ : Finset (slotRect s k).shape.Idx) = Finset.univ ∨ ∀ a, (slotRect s k).stride a = 1}
    {p : PUnit → Prog (TpuEff nD τ sig (Elt F) Λ₀ .tc) α} :
    fut c s k ⊢ iprop((ready m c s k -∗ run c (p ⟨⟩) Q)
      -∗ run c (.op (.load sM (slotRect s k).toLoadRect hl) fun _ => .op (.store sM (slotRect s k) w Finset.univ hx hm) p) Q) := by
  iintro H Hk
  iapply (step_peek c s k) $$ H
  iintro %x H
  iapply (step_store m c s k h0 hv) $$ H
  iexact Hk

/-- The scale is loaded and a block of the result filled. -/
theorem step_xput {Q : α → sProp 𝕄} (c : Dev nD) (k : Fin 4) {off : Fin 2 → ℕ} {hb : ∀ a, off a + S64x512.size a ≤ S512x512.size a}
    (ho : off = k0_off4 c (BitVec.ofNat 32 (64 * k.val))) {pay : (S1x512.Idx → Elt F .f32) → S64x512.Idx → Elt F .f32} (hv : pay (G m c) = outBlk m c k)
    {hl : gM.view.LoadsAt (Rect.unit (s := S1x512) ![0, 0] S1x512.size inb_S1x512_S1x512_0_0).toLoadRect}
    {hl' : oM.view.LoadsAt (Rect.unit (s := S512x512) off S64x512.size hb).toLoadRect}
    {hx : (oM.access (Rect.unit (s := S512x512) off S64x512.size hb)).Stores Finset.univ}
    {hm : (Finset.univ : Finset (Rect.unit (s := S512x512) off S64x512.size hb).shape.Idx) = Finset.univ ∨ ∀ a, (Rect.unit (s := S512x512) off S64x512.size hb).stride a = 1}
    {p : PUnit → Prog (TpuEff nD τ sig (Elt F) Λ₀ .tc) α} :
    gAll m c ⊢ iprop(xfut c k -∗ (gAll m c ∗ xready m c k -∗ run c (p ⟨⟩) Q)
      -∗ run c (.op (.load gM (Rect.unit (s := S1x512) ![0, 0] S1x512.size inb_S1x512_S1x512_0_0).toLoadRect hl) fun g =>
          .op (.load oM (Rect.unit (s := S512x512) off S64x512.size hb).toLoadRect hl') fun _ =>
            .op (.store oM (Rect.unit (s := S512x512) off S64x512.size hb) (pay g) Finset.univ hx hm) p) Q) := by
  iintro Hg H Hk
  iapply (step_load_scale m c) $$ Hg
  iintro Hg
  iapply (step_xpeek c k ho) $$ H
  iintro %x H
  iapply (step_xstore m c k ho hv) $$ H
  iintro H
  iapply Hk
  isplitl [Hg] <;> iassumption

theorem off_same (c : Dev nD) (k : Fin 4) : k0_off3 c (BitVec.ofNat 32 (64 * k.val)) = k0_off4 c (BitVec.ofNat 32 (64 * k.val)) :=
  (k0_off3_eq c k).trans (k0_off4_eq c k).symm

end Cert.KernelIdeal.Run
-- ==== Proof.Parts.lean ====
/-
  The parts of the body one after the other, from the first copy to the last wait: which blocks each of them moves on.
-/
module

public import proofs.«01_k».proof.Proof.Chain

@[expose] public section

set_option maxRecDepth 16384

noncomputable section

namespace Cert.KernelIdeal.Run

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds (URounds)

variable {F : FTy → Type} [FloatOps F]

local notation "𝕄" => MT nD τ sig Unit (Elt F) ℕ UU ℕ

variable (m : (ℓ : Loc nD τ sig) → Buf (Elt F) ℓ) (κ : GSem nD τ sig → ℕ)

variable (h0 : pM.IsWhole) (h1 : gM.IsWhole) (h2 : oM.IsWhole) (h3 : sM.IsWhole) (h4 : rM.IsWhole)

/-- What step s loads: the arrived block and the own rows to add to it. -/
abbrev arrived (c : Dev nD) (s : Fin 3) (k : Fin 4) : Vec F S1x64x512 .f32 := shapeCast S1x64x512 (landed m c s k) shapeCasts_S64x512_S1x64x512
abbrev added (c : Dev nD) (s : Fin 3) (k : Fin 4) : Vec F S64x512 .f32 := chunk m c (ahead s.val) k

theorem part3 (c : Dev nD) (v2 v8 v19 v52 v64 v65 : BitVec 32) {Q} :
    known m κ ⊢ iprop(owing c 3 -∗ ready m c 0 0 -∗ ready m c 0 1
      -∗ (∀ r, owing c 5 ∗ flying c 0 0 ∗ flying c 0 1 -∗ Q r)
      -∗ run (F := F) c (k0_part3 pM h0 gM h1 oM h2 sM h3 rM h4 cc0_scratch2 cc0_scratch3 cc0_scratch4 cc0_scratch5 c v2 v8 v19 v52 v64 v65) Q) := by
  rw [k0_part3_eq_skeleton]; unfold k0_part3_skel
  simp only [Prog.lift, Prog.bind_op, Prog.bind_ret, Prog.pure_eq_ret]
  obtain ⟨e4, e5, -, -, -, -, -, -, -, -, -, -⟩ := dev_send c
  iintro #HK HO H00 H01 Hk
  iapply (curry (step_send m κ c 0 0 (Fin.ext e4) rfl rfl rfl rfl)) $$ HK HO H00
  iintro ⟨HO, H00⟩
  iapply (curry (step_send m κ c 0 1 (Fin.ext e5) rfl rfl rfl rfl)) $$ HK HO H01
  iintro ⟨HO, H01⟩
  iapply step_ret
  iapply Hk
  isplitl [HO]; · iexact HO
  isplitl [H00]; · iexact H00
  iexact H01

theorem part4 (c : Dev nD) (v2 v8 v19 v52 v64 v98 c128 : BitVec 32) {Q} :
    known m κ ⊢ iprop(owing c 5 -∗ ready m c 0 2 -∗ ready m c 0 3
      -∗ (∀ r, owing c 7 ∗ flying c 0 2 ∗ flying c 0 3 -∗ Q r)
      -∗ run (F := F) c (k0_part4 pM h0 gM h1 oM h2 sM h3 rM h4 cc0_scratch2 cc0_scratch3 cc0_scratch4 cc0_scratch5 c v2 v8 v19 v52 v64 v98 c128) Q) := by
  rw [k0_part4_eq_skeleton]; unfold k0_part4_skel
  simp only [Prog.lift, Prog.bind_op, Prog.bind_ret, Prog.pure_eq_ret]
  obtain ⟨-, -, e6, e7, -, -, -, -, -, -, -, -⟩ := dev_send c
  iintro #HK HO H02 H03 Hk
  iapply (curry (step_send m κ c 0 2 (Fin.ext e6) rfl rfl rfl rfl)) $$ HK HO H02
  iintro ⟨HO, H02⟩
  iapply (curry (step_send m κ c 0 3 (Fin.ext e7) rfl rfl rfl rfl)) $$ HK HO H03
  iintro ⟨HO, H03⟩
  iapply step_ret
  iapply Hk
  isplitl [HO]; · iexact HO
  isplitl [H02]; · iexact H02
  iexact H03

theorem part5 (c : Dev nD) (v2 v5 v8 v19 v52 : BitVec 32) {Q} :
    known m κ ⊢ iprop(owing c 7 -∗ flying c 0 0
      -∗ (∀ r, owing c 7 ∗ got m c 0 0 -∗ Q r)
      -∗ run (F := F) c (k0_part5 pM h0 gM h1 oM h2 sM h3 rM h4 cc0_scratch2 cc0_scratch3 cc0_scratch4 cc0_scratch5 c v2 v5 v8 v19 v52) Q) := by
  rw [k0_part5_eq_skeleton]; unfold k0_part5_skel
  simp only [Prog.lift, Prog.bind_op, Prog.bind_ret, Prog.pure_eq_ret]
  iintro #HK HO H00 Hk
  iapply (curry (step_recv m κ c 7 0 0 (by decide) rfl (credit _))) $$ HK HO H00
  iintro ⟨HO, H00⟩
  iapply step_ret
  iapply Hk
  isplitl [HO]; · iexact HO
  iexact H00

theorem part6 (c : Dev nD) (v2 v8 v19 v52 v151 : BitVec 32) {Q} :
    known m κ ⊢ iprop(owing c 7 -∗ pRest m c -∗ got m c 0 0 -∗ fut c 1 0
      -∗ (∀ r, owing c 8 ∗ pRest m c ∗ got m c 0 0 ∗ flying c 1 0 -∗ Q r)
      -∗ run (F := F) c (k0_part6 pM h0 gM h1 oM h2 sM h3 rM h4 cc0_scratch2 cc0_scratch3 cc0_scratch4 cc0_scratch5 c v2 v8 v19 v52 v151) Q) := by
  rw [k0_part6_eq_skeleton]; unfold k0_part6_skel
  simp only [Prog.lift, Prog.bind_op, Prog.bind_ret, Prog.pure_eq_ret]
  obtain ⟨-, -, -, -, e8, -, -, -, -, -, -, -⟩ := dev_send c
  iintro #HK HO HP H00 H10 Hk
  iapply (step_take m c 0 0) $$ H00 HP
  iintro ⟨H00, HP⟩
  iapply (step_put m c 1 0 (by decide) rfl) $$ H10
  iintro H10
  iapply (curry (step_send m κ c 1 0 (src := SM 1 0) (Fin.ext e8) rfl rfl rfl rfl)) $$ HK HO H10
  iintro ⟨HO, H10⟩
  iapply step_ret
  iapply Hk
  isplitl [HO]; · iexact HO
  isplitl [HP]; · iexact HP
  isplitl [H00]; · iexact H00
  iexact H10

theorem part7 (c : Dev nD) (v2 v8 v19 v52 v151 : BitVec 32) {Q} :
    known m κ ⊢ iprop(owing c 8 -∗ pRest m c -∗ flying c 0 1 -∗ fut c 1 1
      -∗ (∀ r, owing c 9 ∗ pRest m c ∗ got m c 0 1 ∗ flying c 1 1 -∗ Q r)
      -∗ run (F := F) c (k0_part7 pM h0 gM h1 oM h2 sM h3 rM h4 cc0_scratch2 cc0_scratch3 cc0_scratch4 cc0_scratch5 c v2 v8 v19 v52 v151) Q) := by
  rw [k0_part7_eq_skeleton]; unfold k0_part7_skel
  simp only [Prog.lift, Prog.bind_op, Prog.bind_ret, Prog.pure_eq_ret]
  obtain ⟨-, -, -, -, -, e9, -, -, -, -, -, -⟩ := dev_send c
  iintro #HK HO HP H01 H11 Hk
  iapply (curry (step_recv m κ c 8 0 1 (by decide) rfl (credit _))) $$ HK HO H01
  iintro ⟨HO, H01⟩
  iapply (step_take m c 0 1) $$ H01 HP
  iintro ⟨H01, HP⟩
  iapply (step_put m c 1 1 (by decide) rfl) $$ H11
  iintro H11
  iapply (curry (step_send m κ c 1 1 (src := SM 1 1) (Fin.ext e9) rfl rfl rfl rfl)) $$ HK HO H11
  iintro ⟨HO, H11⟩
  iapply step_ret
  iapply Hk
  isplitl [HO]; · iexact HO
  isplitl [HP]; · iexact HP
  isplitl [H01]; · iexact H01
  iexact H11

theorem part8 (c : Dev nD) (v2 v8 v19 v52 v151 : BitVec 32) {Q} :
    known m κ ⊢ iprop(owing c 9 -∗ pRest m c -∗ flying c 0 2 -∗ fut c 1 2
      -∗ (∀ r, owing c 9 ∗ pRest m c ∗ got m c 0 2 ∗ ready m c 1 2 -∗ Q r)
      -∗ run (F := F) c (k0_part8 pM h0 gM h1 oM h2 sM h3 rM h4 cc0_scratch2 cc0_scratch3 cc0_scratch4 cc0_scratch5 c v2 v8 v19 v52 v151) Q) := by
  rw [k0_part8_eq_skeleton]; unfold k0_part8_skel
  simp only [Prog.lift, Prog.bind_op, Prog.bind_ret, Prog.pure_eq_ret]
  iintro #HK HO HP H02 H12 Hk
  iapply (curry (step_recv m κ c 9 0 2 (by decide) rfl (credit _))) $$ HK HO H02
  iintro ⟨HO, H02⟩
  iapply (step_take m c 0 2) $$ H02 HP
  iintro ⟨H02, HP⟩
  iapply (step_put m c 1 2 (by decide) rfl) $$ H12
  iintro H12
  iapply step_ret
  iapply Hk
  isplitl [HO]; · iexact HO
  isplitl [HP]; · iexact HP
  isplitl [H02]; · iexact H02
  iexact H12

theorem part9 (c : Dev nD) (v2 v8 v19 v52 v151 : BitVec 32) {Q} :
    known m κ ⊢ iprop(owing c 9 -∗ pRest m c -∗ ready m c 1 2 -∗ flying c 0 3 -∗ fut c 1 3
      -∗ (∀ r, owing c 10 ∗ pRest m c ∗ flying c 1 2 ∗ got m c 0 3 ∗ ready m c 1 3 -∗ Q r)
      -∗ run (F := F) c (k0_part9 pM h0 gM h1 oM h2 sM h3 rM h4 cc0_scratch2 cc0_scratch3 cc0_scratch4 cc0_scratch5 c v2 v8 v19 v52 v151) Q) := by
  rw [k0_part9_eq_skeleton]; unfold k0_part9_skel
  simp only [Prog.lift, Prog.bind_op, Prog.bind_ret, Prog.pure_eq_ret]
  obtain ⟨-, -, -, -, -, -, e10, -, -, -, -, -⟩ := dev_send c
  iintro #HK HO HP H12 H03 H13 Hk
  iapply (curry (step_send m κ c 1 2 (src := SM 1 2) (Fin.ext e10) rfl rfl rfl rfl)) $$ HK HO H12
  iintro ⟨HO, H12⟩
  iapply (curry (step_recv m κ c 10 0 3 (by decide) rfl (credit _))) $$ HK HO H03
  iintro ⟨HO, H03⟩
  iapply (step_take m c 0 3) $$ H03 HP
  iintro ⟨H03, HP⟩
  iapply (step_put m c 1 3 (by decide) rfl) $$ H13
  iintro H13
  iapply step_ret
  iapply Hk
  isplitl [HO]; · iexact HO
  isplitl [HP]; · iexact HP
  isplitl [H12]; · iexact H12
  isplitl [H03]; · iexact H03
  iexact H13

theorem part10 (c : Dev nD) (v2 v5 v8 v19 v286 c0 : BitVec 32) {Q} :
    known m κ ⊢ iprop(owing c 10 -∗ ready m c 1 3
      -∗ (∀ r, owing c 11 ∗ flying c 1 3 -∗ Q r)
      -∗ run (F := F) c (k0_part10 pM h0 gM h1 oM h2 sM h3 rM h4 cc0_scratch2 cc0_scratch3 cc0_scratch4 cc0_scratch5 c v2 v5 v8 v19 v286 c0) Q) := by
  rw [k0_part10_eq_skeleton]; unfold k0_part10_skel
  simp only [Prog.lift, Prog.bind_op, Prog.bind_ret, Prog.pure_eq_ret]
  obtain ⟨-, -, -, -, -, -, -, e11, -, -, -, -⟩ := dev_send c
  iintro #HK HO H13 Hk
  iapply (curry (step_send m κ c 1 3 (src := SM 1 3) (Fin.ext e11) rfl rfl rfl rfl)) $$ HK HO H13
  iintro ⟨HO, H13⟩
  iapply step_ret
  iapply Hk
  isplitl [HO]; · iexact HO
  iexact H13

theorem part11 (c : Dev nD) (v2 v8 v19 v52 v310 : BitVec 32) {Q} :
    known m κ ⊢ iprop(owing c 11 -∗ pRest m c -∗ flying c 1 0 -∗ fut c 2 0
      -∗ (∀ r, owing c 12 ∗ pRest m c ∗ got m c 1 0 ∗ flying c 2 0 -∗ Q r)
      -∗ run (F := F) c (k0_part11 pM h0 gM h1 oM h2 sM h3 rM h4 cc0_scratch2 cc0_scratch3 cc0_scratch4 cc0_scratch5 c v2 v8 v19 v52 v310) Q) := by
  rw [k0_part11_eq_skeleton]; unfold k0_part11_skel
  simp only [Prog.lift, Prog.bind_op, Prog.bind_ret, Prog.pure_eq_ret]
  obtain ⟨-, -, -, -, -, -, -, -, e12, -, -, -⟩ := dev_send c
  iintro #HK HO HP H10 H20 Hk
  iapply (curry (step_recv m κ c 11 1 0 (by decide) rfl (credit _))) $$ HK HO H10
  iintro ⟨HO, H10⟩
  iapply (step_take m c 1 0) $$ H10 HP
  iintro ⟨H10, HP⟩
  iapply (step_put m c 2 0 (by decide) rfl) $$ H20
  iintro H20
  iapply (curry (step_send m κ c 2 0 (src := SM 2 0) (Fin.ext e12) rfl rfl rfl rfl)) $$ HK HO H20
  iintro ⟨HO, H20⟩
  iapply step_ret
  iapply Hk
  isplitl [HO]; · iexact HO
  isplitl [HP]; · iexact HP
  isplitl [H10]; · iexact H10
  iexact H20

theorem part12 (c : Dev nD) (v2 v8 v19 v52 v310 v350 : BitVec 32) {Q} :
    known m κ ⊢ iprop(owing c 12 -∗ pRest m c -∗ flying c 1 1 -∗ fut c 2 1
      -∗ (∀ r, owing c 12 ∗ pRest m c ∗ got m c 1 1 ∗ ready m c 2 1 -∗ Q r)
      -∗ run (F := F) c (k0_part12 pM h0 gM h1 oM h2 sM h3 rM h4 cc0_scratch2 cc0_scratch3 cc0_scratch4 cc0_scratch5 c v2 v8 v19 v52 v310 v350) Q) := by
  rw [k0_part12_eq_skeleton]; unfold k0_part12_skel
  simp only [Prog.lift, Prog.bind_op, Prog.bind_ret, Prog.pure_eq_ret]
  iintro #HK HO HP H11 H21 Hk
  iapply (curry (step_recv m κ c 12 1 1 (by decide) rfl (credit _))) $$ HK HO H11
  iintro ⟨HO, H11⟩
  iapply (step_take m c 1 1) $$ H11 HP
  iintro ⟨H11, HP⟩
  iapply (step_put m c 2 1 (by decide) rfl) $$ H21
  iintro H21
  iapply step_ret
  iapply Hk
  isplitl [HO]; · iexact HO
  isplitl [HP]; · iexact HP
  isplitl [H11]; · iexact H11
  iexact H21

theorem part13 (c : Dev nD) (v2 v8 v19 v52 v310 : BitVec 32) {Q} :
    known m κ ⊢ iprop(owing c 12 -∗ pRest m c -∗ ready m c 2 1 -∗ flying c 1 2 -∗ fut c 2 2
      -∗ (∀ r, owing c 13 ∗ pRest m c ∗ flying c 2 1 ∗ got m c 1 2 ∗ ready m c 2 2 -∗ Q r)
      -∗ run (F := F) c (k0_part13 pM h0 gM h1 oM h2 sM h3 rM h4 cc0_scratch2 cc0_scratch3 cc0_scratch4 cc0_scratch5 c v2 v8 v19 v52 v310) Q) := by
  rw [k0_part13_eq_skeleton]; unfold k0_part13_skel
  simp only [Prog.lift, Prog.bind_op, Prog.bind_ret, Prog.pure_eq_ret]
  obtain ⟨-, -, -, -, -, -, -, -, -, e13, -, -⟩ := dev_send c
  iintro #HK HO HP H21 H12 H22 Hk
  iapply (curry (step_send m κ c 2 1 (src := SM 2 1) (Fin.ext e13) rfl rfl rfl rfl)) $$ HK HO H21
  iintro ⟨HO, H21⟩
  iapply (curry (step_recv m κ c 13 1 2 (by decide) rfl (credit _))) $$ HK HO H12
  iintro ⟨HO, H12⟩
  iapply (step_take m c 1 2) $$ H12 HP
  iintro ⟨H12, HP⟩
  iapply (step_put m c 2 2 (by decide) rfl) $$ H22
  iintro H22
  iapply step_ret
  iapply Hk
  isplitl [HO]; · iexact HO
  isplitl [HP]; · iexact HP
  isplitl [H21]; · iexact H21
  isplitl [H12]; · iexact H12
  iexact H22

theorem part14 (c : Dev nD) (v2 v8 v19 v52 v310 v411 c0 : BitVec 32) {Q} :
    known m κ ⊢ iprop(owing c 13 -∗ pRest m c -∗ ready m c 2 2 -∗ flying c 1 3
      -∗ (owing c 14 ∗ pRest m c ∗ flying c 2 2 ∗ got m c 1 3 -∗ Q (k0_pay8 (arrived m c 1 3) (added m c 1 3)))
      -∗ run (F := F) c (k0_part14 pM h0 gM h1 oM h2 sM h3 rM h4 cc0_scratch2 cc0_scratch3 cc0_scratch4 cc0_scratch5 c v2 v8 v19 v52 v310 v411 c0) Q) := by
  rw [k0_part14_eq_skeleton]; unfold k0_part14_skel
  simp only [Prog.lift, Prog.bind_op, Prog.bind_ret, Prog.pure_eq_ret]
  obtain ⟨-, -, -, -, -, -, -, -, -, -, e14, -⟩ := dev_send c
  iintro #HK HO HP H22 H13 Hk
  iapply (curry (step_send m κ c 2 2 (src := SM 2 2) (Fin.ext e14) rfl rfl rfl rfl)) $$ HK HO H22
  iintro ⟨HO, H22⟩
  iapply (curry (step_recv m κ c 14 1 3 (by decide) rfl (credit _))) $$ HK HO H13
  iintro ⟨HO, H13⟩
  iapply (step_take m c 1 3) $$ H13 HP
  iintro ⟨H13, HP⟩
  iapply step_ret
  iapply Hk
  isplitl [HO]; · iexact HO
  isplitl [HP]; · iexact HP
  isplitl [H22]; · iexact H22
  iexact H13

theorem part15 (c : Dev nD) (v2 v5 v8 v19 : BitVec 32) {Q} :
    known m κ ⊢ iprop(owing c 14 -∗ fut c 2 3
      -∗ (∀ r, owing c 15 ∗ flying c 2 3 -∗ Q r)
      -∗ run (F := F) c (k0_part15 pM h0 gM h1 oM h2 sM h3 rM h4 cc0_scratch2 cc0_scratch3 cc0_scratch4 cc0_scratch5 c v2 v5 v8 v19 (k0_pay8 (arrived m c 1 3) (added m c 1 3))) Q) := by
  rw [k0_part15_eq_skeleton]; unfold k0_part15_skel
  simp only [Prog.lift, Prog.bind_op, Prog.bind_ret, Prog.pure_eq_ret]
  obtain ⟨-, -, -, -, -, -, -, -, -, -, -, e15⟩ := dev_send c
  iintro #HK HO H23 Hk
  iapply (step_put m c 2 3 (by decide) rfl) $$ H23
  iintro H23
  iapply (curry (step_send m κ c 2 3 (src := SM 2 3) (Fin.ext e15) rfl rfl rfl rfl)) $$ HK HO H23
  iintro ⟨HO, H23⟩
  iapply step_ret
  iapply Hk
  isplitl [HO]; · iexact HO
  iexact H23

theorem part16 (c : Dev nD) (v8 v19 v52 v473 v475 : BitVec 32) {Q} :
    known m κ ⊢ iprop(owing c 15 -∗ pRest m c -∗ gAll m c -∗ flying c 2 0 -∗ xfut c 0
      -∗ (∀ r, owing c 15 ∗ pRest m c ∗ gAll m c ∗ got m c 2 0 ∗ xready m c 0 -∗ Q r)
      -∗ run (F := F) c (k0_part16 pM h0 gM h1 oM h2 sM h3 rM h4 cc0_scratch2 cc0_scratch3 cc0_scratch4 cc0_scratch5 c v8 v19 v52 v473 v475) Q) := by
  rw [k0_part16_eq_skeleton]; unfold k0_part16_skel
  simp only [Prog.lift, Prog.bind_op, Prog.bind_ret, Prog.pure_eq_ret]
  iintro #HK HO HP HG H20 X0 Hk
  iapply (curry (step_recv m κ c 15 2 0 (by decide) rfl (credit _))) $$ HK HO H20
  iintro ⟨HO, H20⟩
  iapply (step_take m c 2 0) $$ H20 HP
  iintro ⟨H20, HP⟩
  iapply (step_xput m c 0 (off_same c 0) rfl) $$ HG X0
  iintro ⟨HG, X0⟩
  iapply step_ret
  iapply Hk
  isplitl [HO]; · iexact HO
  isplitl [HP]; · iexact HP
  isplitl [HG]; · iexact HG
  isplitl [H20]; · iexact H20
  iexact X0

theorem part17 (c : Dev nD) (v2 v5 v8 v19 v52 v131 v473 c0 : BitVec 32) {Q} :
    known m κ ⊢ iprop(owing c 15 -∗ pRest m c -∗ xready m c 0 -∗ flying c 2 1
      -∗ (owing c 16 ∗ pRest m c ∗ xflying c 0 ∗ got m c 2 1 -∗ Q ⟨k0_pay11 (arrived m c 2 1) (added m c 2 1), k0_pay12 (arrived m c 2 1) (added m c 2 1)⟩)
      -∗ run (F := F) c (k0_part17 pM h0 gM h1 oM h2 sM h3 rM h4 cc0_scratch2 cc0_scratch3 cc0_scratch4 cc0_scratch5 c v2 v5 v8 v19 v52 v131 v473 c0) Q) := by
  rw [k0_part17_eq_skeleton]; unfold k0_part17_skel
  simp only [Prog.lift, Prog.bind_op, Prog.bind_ret, Prog.pure_eq_ret]
  obtain ⟨e16, -, -, -⟩ := dev_xsend c
  iintro #HK HO HP X0 H21 Hk
  iapply (curry (step_xsend m κ c 0 (Fin.ext e16) rfl rfl rfl rfl)) $$ HK HO X0
  iintro ⟨HO, X0⟩
  iapply (curry (step_recv m κ c 16 2 1 (by decide) rfl (credit _))) $$ HK HO H21
  iintro ⟨HO, H21⟩
  iapply (step_take m c 2 1) $$ H21 HP
  iintro ⟨H21, HP⟩
  iapply step_ret
  iapply Hk
  isplitl [HO]; · iexact HO
  isplitl [HP]; · iexact HP
  isplitl [X0]; · iexact X0
  iexact H21

theorem part18 (c : Dev nD) (v2 v5 v8 v19 v52 v134 : BitVec 32) {Q} :
    known m κ ⊢ iprop(owing c 16 -∗ gAll m c -∗ xfut c 1
      -∗ (∀ r, owing c 17 ∗ gAll m c ∗ xflying c 1 -∗ Q r)
      -∗ run (F := F) c (k0_part18 pM h0 gM h1 oM h2 sM h3 rM h4 cc0_scratch2 cc0_scratch3 cc0_scratch4 cc0_scratch5 c v2 v5 v8 v19 v52 v134 (k0_pay11 (arrived m c 2 1) (added m c 2 1)) (k0_pay12 (arrived m c 2 1) (added m c 2 1))) Q) := by
  rw [k0_part18_eq_skeleton]; unfold k0_part18_skel
  simp only [Prog.lift, Prog.bind_op, Prog.bind_ret, Prog.pure_eq_ret]
  obtain ⟨-, e17, -, -⟩ := dev_xsend c
  iintro #HK HO HG X1 Hk
  iapply (step_xput m c 1 (off_same c 1) rfl) $$ HG X1
  iintro ⟨HG, X1⟩
  iapply (curry (step_xsend m κ c 1 (Fin.ext e17) rfl rfl rfl rfl)) $$ HK HO X1
  iintro ⟨HO, X1⟩
  iapply step_ret
  iapply Hk
  isplitl [HO]; · iexact HO
  isplitl [HG]; · iexact HG
  iexact X1

theorem part19 (c : Dev nD) (v5 v8 v52 v137 v473 : BitVec 32) {Q} :
    known m κ ⊢ iprop(owing c 17 -∗ pRest m c -∗ gAll m c -∗ flying c 2 2 -∗ xfut c 2
      -∗ (∀ r, owing c 17 ∗ pRest m c ∗ gAll m c ∗ got m c 2 2 ∗ xready m c 2 -∗ Q r)
      -∗ run (F := F) c (k0_part19 pM h0 gM h1 oM h2 sM h3 rM h4 cc0_scratch2 cc0_scratch3 cc0_scratch4 cc0_scratch5 c v5 v8 v52 v137 v473) Q) := by
  rw [k0_part19_eq_skeleton]; unfold k0_part19_skel
  simp only [Prog.lift, Prog.bind_op, Prog.bind_ret, Prog.pure_eq_ret]
  iintro #HK HO HP HG H22 X2 Hk
  iapply (curry (step_recv m κ c 17 2 2 (by decide) rfl (credit _))) $$ HK HO H22
  iintro ⟨HO, H22⟩
  iapply (step_take m c 2 2) $$ H22 HP
  iintro ⟨H22, HP⟩
  iapply (step_xput m c 2 (off_same c 2) rfl) $$ HG X2
  iintro ⟨HG, X2⟩
  iapply step_ret
  iapply Hk
  isplitl [HO]; · iexact HO
  isplitl [HP]; · iexact HP
  isplitl [HG]; · iexact HG
  isplitl [H22]; · iexact H22
  iexact X2

theorem part20 (c : Dev nD) (v2 v8 v19 v52 v473 v615 v616 : BitVec 32) {Q} :
    known m κ ⊢ iprop(owing c 17 -∗ pRest m c -∗ xready m c 2 -∗ flying c 2 3
      -∗ (owing c 18 ∗ pRest m c ∗ xflying c 2 ∗ got m c 2 3 -∗ Q ⟨k0_pay15 (arrived m c 2 3) (added m c 2 3), k0_pay16 (arrived m c 2 3) (added m c 2 3)⟩)
      -∗ run (F := F) c (k0_part20 pM h0 gM h1 oM h2 sM h3 rM h4 cc0_scratch2 cc0_scratch3 cc0_scratch4 cc0_scratch5 c v2 v8 v19 v52 v473 v615 v616) Q) := by
  rw [k0_part20_eq_skeleton]; unfold k0_part20_skel
  simp only [Prog.lift, Prog.bind_op, Prog.bind_ret, Prog.pure_eq_ret]
  obtain ⟨-, -, e18, -⟩ := dev_xsend c
  iintro #HK HO HP X2 H23 Hk
  iapply (curry (step_xsend m κ c 2 (Fin.ext e18) rfl rfl rfl rfl)) $$ HK HO X2
  iintro ⟨HO, X2⟩
  iapply (curry (step_recv m κ c 18 2 3 (by decide) rfl (credit _))) $$ HK HO H23
  iintro ⟨HO, H23⟩
  iapply (step_take m c 2 3) $$ H23 HP
  iintro ⟨H23, HP⟩
  iapply step_ret
  iapply Hk
  isplitl [HO]; · iexact HO
  isplitl [HP]; · iexact HP
  isplitl [X2]; · iexact X2
  iexact H23

theorem part21 (c : Dev nD) (v5 v8 v52 v131 v134 v140 : BitVec 32) {Q} :
    known m κ ⊢ iprop(owing c 18 -∗ gAll m c -∗ xfut c 3 -∗ xflying c 0
      -∗ (∀ r, owing c 19 ∗ gAll m c ∗ xflying c 3 ∗ xgot m c 0 -∗ Q r)
      -∗ run (F := F) c (k0_part21 pM h0 gM h1 oM h2 sM h3 rM h4 cc0_scratch2 cc0_scratch3 cc0_scratch4 cc0_scratch5 c v5 v8 v52 v131 v134 v140 (k0_pay15 (arrived m c 2 3) (added m c 2 3)) (k0_pay16 (arrived m c 2 3) (added m c 2 3))) Q) := by
  rw [k0_part21_eq_skeleton]; unfold k0_part21_skel
  simp only [Prog.lift, Prog.bind_op, Prog.bind_ret, Prog.pure_eq_ret]
  obtain ⟨-, -, -, e19⟩ := dev_xsend c
  iintro #HK HO HG X3 X0 Hk
  iapply (step_xput m c 3 (off_same c 3) rfl) $$ HG X3
  iintro ⟨HG, X3⟩
  iapply (curry (step_xsend m κ c 3 (Fin.ext e19) rfl rfl rfl rfl)) $$ HK HO X3
  iintro ⟨HO, X3⟩
  iapply (curry (step_xrecv m κ c 0 rfl (credit _))) $$ HK HO X0
  iintro ⟨HO, X0⟩
  iapply step_ret
  iapply Hk
  isplitl [HO]; · iexact HO
  isplitl [HG]; · iexact HG
  isplitl [X3]; · iexact X3
  iexact X0

theorem part22 (c : Dev nD) (v5 v8 v137 v140 v684 c0 : BitVec 32) {Q} :
    known m κ ⊢ iprop(owing c 19 -∗ xflying c 1 -∗ xflying c 2 -∗ xflying c 3
      -∗ (∀ r, owing c 19 ∗ xgot m c 1 ∗ xgot m c 2 ∗ xgot m c 3 -∗ Q r)
      -∗ run (F := F) c (k0_part22 pM h0 gM h1 oM h2 sM h3 rM h4 cc0_scratch2 cc0_scratch3 cc0_scratch4 cc0_scratch5 c v5 v8 v137 v140 v684 c0) Q) := by
  rw [k0_part22_eq_skeleton]; unfold k0_part22_skel
  simp only [Prog.lift, Prog.bind_op, Prog.bind_ret, Prog.pure_eq_ret]
  iintro #HK HO X1 X2 X3 Hk
  iapply (curry (step_xrecv m κ c 1 rfl (credit _))) $$ HK HO X1
  iintro ⟨HO, X1⟩
  iapply (curry (step_xrecv m κ c 2 rfl (credit _))) $$ HK HO X2
  iintro ⟨HO, X2⟩
  iapply (curry (step_xrecv m κ c 3 rfl (credit _))) $$ HK HO X3
  iintro ⟨HO, X3⟩
  iapply step_ret
  iapply Hk
  isplitl [HO]; · iexact HO
  isplitl [X1]; · iexact X1
  isplitl [X2]; · iexact X2
  iexact X3

theorem part23 (c : Dev nD) {Q} :
    known m κ ⊢ iprop(owing c 19 -∗ got m c 0 0 -∗ got m c 0 1 -∗ got m c 0 2 -∗ got m c 0 3 -∗ got m c 1 0
      -∗ (∀ r, owing c 19 ∗ fin m c 0 0 ∗ fin m c 0 1 ∗ fin m c 0 2 ∗ fin m c 0 3 ∗ fin m c 1 0 -∗ Q r)
      -∗ run (F := F) c (k0_part23 pM h0 gM h1 oM h2 sM h3 rM h4 cc0_scratch2 cc0_scratch3 cc0_scratch4 cc0_scratch5 c) Q) := by
  rw [k0_part23_eq_skeleton]; unfold k0_part23_skel
  simp only [Prog.lift, Prog.bind_op, Prog.bind_ret, Prog.pure_eq_ret]
  iintro #HK HO H00 H01 H02 H03 H10 Hk
  iapply (curry (step_sent m κ c 0 0 rfl (credit _))) $$ HK HO H00
  iintro ⟨HO, H00⟩
  iapply (curry (step_sent m κ c 0 1 rfl (credit _))) $$ HK HO H01
  iintro ⟨HO, H01⟩
  iapply (curry (step_sent m κ c 0 2 rfl (credit _))) $$ HK HO H02
  iintro ⟨HO, H02⟩
  iapply (curry (step_sent m κ c 0 3 rfl (credit _))) $$ HK HO H03
  iintro ⟨HO, H03⟩
  iapply (curry (step_sent m κ c 1 0 rfl (credit _))) $$ HK HO H10
  iintro ⟨HO, H10⟩
  iapply step_ret
  iapply Hk
  isplitl [HO]; · iexact HO
  isplitl [H00]; · iexact H00
  isplitl [H01]; · iexact H01
  isplitl [H02]; · iexact H02
  isplitl [H03]; · iexact H03
  iexact H10

theorem part24 (c : Dev nD) {Q} :
    known m κ ⊢ iprop(owing c 19 -∗ got m c 1 1 -∗ got m c 1 2 -∗ got m c 1 3
      -∗ (∀ r, owing c 19 ∗ fin m c 1 1 ∗ fin m c 1 2 ∗ fin m c 1 3 -∗ Q r)
      -∗ run (F := F) c (k0_part24 pM h0 gM h1 oM h2 sM h3 rM h4 cc0_scratch2 cc0_scratch3 cc0_scratch4 cc0_scratch5) Q) := by
  rw [k0_part24_eq_skeleton]; unfold k0_part24_skel
  simp only [Prog.lift, Prog.bind_op, Prog.bind_ret, Prog.pure_eq_ret]
  iintro #HK HO H11 H12 H13 Hk
  iapply (curry (step_sent m κ c 1 1 rfl (credit _))) $$ HK HO H11
  iintro ⟨HO, H11⟩
  iapply (curry (step_sent m κ c 1 2 rfl (credit _))) $$ HK HO H12
  iintro ⟨HO, H12⟩
  iapply (curry (step_sent m κ c 1 3 rfl (credit _))) $$ HK HO H13
  iintro ⟨HO, H13⟩
  iapply step_ret
  iapply Hk
  isplitl [HO]; · iexact HO
  isplitl [H11]; · iexact H11
  isplitl [H12]; · iexact H12
  iexact H13

theorem part25 (c : Dev nD) {Q} :
    known m κ ⊢ iprop(owing c 19 -∗ got m c 2 0 -∗ got m c 2 1 -∗ got m c 2 2 -∗ got m c 2 3
      -∗ (∀ r, owing c 19 ∗ fin m c 2 0 ∗ fin m c 2 1 ∗ fin m c 2 2 ∗ fin m c 2 3 -∗ Q r)
      -∗ run (F := F) c (k0_part25 pM h0 gM h1 oM h2 sM h3 rM h4 cc0_scratch2 cc0_scratch3 cc0_scratch4 cc0_scratch5 c) Q) := by
  rw [k0_part25_eq_skeleton]; unfold k0_part25_skel
  simp only [Prog.lift, Prog.bind_op, Prog.bind_ret, Prog.pure_eq_ret]
  iintro #HK HO H20 H21 H22 H23 Hk
  iapply (curry (step_sent m κ c 2 0 rfl (credit _))) $$ HK HO H20
  iintro ⟨HO, H20⟩
  iapply (curry (step_sent m κ c 2 1 rfl (credit _))) $$ HK HO H21
  iintro ⟨HO, H21⟩
  iapply (curry (step_sent m κ c 2 2 rfl (credit _))) $$ HK HO H22
  iintro ⟨HO, H22⟩
  iapply (curry (step_sent m κ c 2 3 rfl (credit _))) $$ HK HO H23
  iintro ⟨HO, H23⟩
  iapply step_ret
  iapply Hk
  isplitl [HO]; · iexact HO
  isplitl [H20]; · iexact H20
  isplitl [H21]; · iexact H21
  isplitl [H22]; · iexact H22
  iexact H23

end Cert.KernelIdeal.Run
-- ==== Proof.Body.lean ====
/-
  The body of the kernel on one device, from its barrier to its last wait.
-/
module

public import proofs.«01_k».proof.Proof.Parts

@[expose] public section

set_option maxRecDepth 16384

noncomputable section

namespace Cert.KernelIdeal.Run

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds (URounds)

variable {F : FTy → Type} [FloatOps F]

local notation "𝕄" => MT nD τ sig Unit (Elt F) ℕ UU ℕ

variable (m : (ℓ : Loc nD τ sig) → Buf (Elt F) ℓ) (κ : GSem nD τ sig → ℕ)

variable (h0 : pM.IsWhole) (h1 : gM.IsWhole) (h2 : oM.IsWhole) (h3 : sM.IsWhole) (h4 : rM.IsWhole)

/-! ## The barrier -/

theorem part1 (c : Dev nD) {Q} :
    iprop(∀ v2, ∀ v5, ∀ v8, ∀ v19, ∀ v31, ∀ v33, ∀ v34, Q ⟨c, v2, v5, v8, v19, v31, SemArray.scalar (sig.barrier 0 rfl), v33, v34⟩)
      ⊢ run (F := F) c (k0_part1 pM h0 gM h1 oM h2 sM h3 rM h4 cc0_scratch2 cc0_scratch3 cc0_scratch4 cc0_scratch5) Q := by
  rw [k0_part1_eq_skeleton]; unfold k0_part1_skel run
  simp only [Prog.lift, Prog.bind_op, Prog.bind_ret, Prog.pure_eq_ret]
  rw [wp_deviceId]
  iintro H
  iapply (step_ret c)
  iapply H

theorem part2 (c : Dev nD) (v2 v5 v8 v19 v31 v33 v34 : BitVec 32) {Q} :
    known m κ ⊢ iprop(owing c 0 -∗ atPos ER (cellAt c (.reg barS)) 0 ∅ 0 -∗ cred (tallyAt (cellAt c (.reg barS)) () 3)
      -∗ (dutyTok ER (cellAt (lft c) (.reg barS)) 0 0 ∗ barPay (lft c) 0) -∗ dutyTok ER (cellAt (rgt c) (.reg barS)) 0 1
      -∗ (dutyTok ER (cellAt (xp c) (.reg barS)) 0 2 ∗ barPay (xp c) 2)
      -∗ (∀ r, owing c 3 ∗ atPos ER (cellAt c (.reg barS)) (0 + 1) ∅ 0 ∗ barPay c 0 ∗ barPay c 1 ∗ barPay c 2 -∗ Q r)
      -∗ run (F := F) c (k0_part2 pM h0 gM h1 oM h2 sM h3 rM h4 cc0_scratch2 cc0_scratch3 cc0_scratch4 cc0_scratch5 c v2 v5 v8 v19 v31 (SemArray.scalar (sig.barrier 0 rfl)) v33 v34) Q) := by
  rw [k0_part2_eq_skeleton]; unfold k0_part2_skel
  simp only [Prog.lift, Prog.bind_op, Prog.bind_ret, Prog.pure_eq_ret, semSignalWord, semWaitWord]
  rw [show (⟨k0_dev1 c, k0_dev1_lt c⟩ : Dev nD) = lft c from Fin.ext (dev_left c),
    show (⟨k0_dev2 c, k0_dev2_lt c⟩ : Dev nD) = rgt c from Fin.ext (dev_right c),
    show (⟨k0_dev3 c, k0_dev3_lt c⟩ : Dev nD) = xp c from Fin.ext (dev_peer c)]
  iintro #HK HO Ha Hc HL HR HX Hk
  iapply (curry (step_signal m κ c ⟨0, by decide⟩ 0 (d := lft c) rfl rfl rfl rfl rfl)) $$ HK HO HL
  iintro HO
  iapply (curry (step_signal m κ c ⟨1, by decide⟩ 1 (d := rgt c) rfl rfl rfl rfl rfl)) $$ HK HO [HR]
  · isplitl [HR]; · iexact HR
    iempintro
  iintro HO
  iapply (curry (step_signal m κ c ⟨2, by decide⟩ 2 (d := xp c) rfl rfl rfl rfl rfl)) $$ HK HO HX
  iintro HO
  iapply (step_barrier m κ c rfl rfl) $$ [HO Ha Hc]
  · isplitr; · iexact HK
    isplitl [HO]; · iexact HO
    isplitl [Ha] <;> iassumption
  iintro H
  iapply step_ret
  iapply Hk
  iexact H

/-! ## The whole body -/

/-- The twelve blocks of the ring one by one, and the four of the result. -/
theorem blocks_list (Φ : Fin 3 × Fin 4 → sProp 𝕄) : (bigSep Finset.univ Φ : sProp 𝕄)
    = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3)) := by
  rw [bigSep_univ_eq_bigSepL [((0, 0) : Fin 3 × Fin 4), ((0, 1) : Fin 3 × Fin 4), ((0, 2) : Fin 3 × Fin 4), ((0, 3) : Fin 3 × Fin 4), ((1, 0) : Fin 3 × Fin 4), ((1, 1) : Fin 3 × Fin 4), ((1, 2) : Fin 3 × Fin 4), ((1, 3) : Fin 3 × Fin 4), ((2, 0) : Fin 3 × Fin 4), ((2, 1) : Fin 3 × Fin 4), ((2, 2) : Fin 3 × Fin 4), ((2, 3) : Fin 3 × Fin 4)] (by decide) (by decide)]
  rfl
theorem rows_list (Φ : Fin 4 → sProp 𝕄) : (bigSep Finset.univ Φ : sProp 𝕄) = iprop(Φ 0 ∗ Φ 1 ∗ Φ 2 ∗ Φ 3) := by
  rw [bigSep_univ_eq_bigSepL [0, 1, 2, 3] (by decide) (by decide)]
  rfl

/-- What a block has before the barrier gives the room at the neighbour. -/
def start (c : Dev nD) (t : Fin 3 × Fin 4) : sProp 𝕄 :=
  iprop(srcEnd c (sendE t.1 t.2) ∗ dutyTok ER (cellAt (rgt c) (osem (recvE t.1 t.2))) 0 0 ∗ waitIn c (recvE t.1 t.2) ∗ anyAt c (SM t.1 t.2))
def xstart (c : Dev nD) (k : Fin 4) : sProp 𝕄 :=
  iprop(srcEnd c (xsendE k) ∗ dutyTok ER (cellAt (xp c) (osem (xrecvE k))) 0 0 ∗ waitIn c (xrecvE k) ∗ anyAt c (OM c k))

theorem start_fut (c : Dev nD) : iprop(barPay c 0 ∗ bigSep Finset.univ (start c)) ⊢ (bigSep Finset.univ fun t : Fin 3 × Fin 4 => fut (F := F) c t.1 t.2) := by
  rw [show barPay (F := F) c 0 = bigSep Finset.univ fun t : Fin 3 × Fin 4 => iprop(anyAt (rgt c) (RM t.1 t.2) ∗ reached ER (cellAt (rgt c) (recvS t.1 t.2)) 0) from rfl,
    ← bigSep_sep']
  refine bigSep_mono fun t _ => ?_
  show (_ : sProp 𝕄) ⊢ _
  unfold start fut dstEnd
  iintro ⟨⟨Ha, Hr⟩, Hs, Ht, Hw, Hb⟩
  isplitl [Hs]; · iexact Hs
  isplitl [Ht Ha Hr]
  · isplitl [Ht]; · iexact Ht
    isplitl [Ha]; · iexact Ha
    iexact Hr
  isplitl [Hw] <;> iassumption

theorem xstart_fut (c : Dev nD) : iprop(barPay c 2 ∗ bigSep Finset.univ (xstart c)) ⊢ (bigSep Finset.univ fun k : Fin 4 => xfut (F := F) c k) := by
  rw [show barPay (F := F) c 2 = bigSep Finset.univ fun k : Fin 4 => iprop(anyAt (xp c) (OM c k) ∗ reached ER (cellAt (xp c) (xrecvS k)) 0) from rfl,
    ← bigSep_sep']
  refine bigSep_mono fun k _ => ?_
  show (_ : sProp 𝕄) ⊢ _
  unfold xstart xfut dstEnd
  iintro ⟨⟨Ha, Hr⟩, Hs, Ht, Hw, Hb⟩
  isplitl [Hs]; · iexact Hs
  isplitl [Ht Ha Hr]
  · isplitl [Ht]; · iexact Ht
    isplitl [Ha]; · iexact Ha
    iexact Hr
  isplitl [Hw] <;> iassumption

/-- The first copies read the input itself. -/
theorem first_ready (c : Dev nD) (k : Fin 4) : fut c 0 k ⊢ iprop(pPart m c k -∗ ready m c 0 k) := by
  unfold fut ready srcPay spare
  rw [if_pos rfl, if_pos rfl]
  iintro ⟨Hs, Hd, Hw, Hb⟩ Hp
  isplitl [Hs]; · iexact Hs
  isplitl [Hd]; · iexact Hd
  isplitl [Hw]; · iexact Hw
  isplitl [Hp] <;> iassumption

theorem body_run (c : Dev nD) {Q : PUnit → sProp 𝕄} :
    known m κ ⊢ iprop(owing c 0 -∗ atPos ER (cellAt c (.reg barS)) 0 ∅ 0 -∗ cred (tallyAt (cellAt c (.reg barS)) () 3)
      -∗ (dutyTok ER (cellAt (lft c) (.reg barS)) 0 0 ∗ barPay (lft c) 0) -∗ dutyTok ER (cellAt (rgt c) (.reg barS)) 0 1
      -∗ (dutyTok ER (cellAt (xp c) (.reg barS)) 0 2 ∗ barPay (xp c) 2)
      -∗ bigSep Finset.univ (start c) -∗ bigSep Finset.univ (xstart c) -∗ bigSep Finset.univ (pPart m c) -∗ pRest m c -∗ gAll m c
      -∗ (owing c 19 ∗ atPos ER (cellAt c (.reg barS)) (0 + 1) ∅ 0 ∗ pRest m c ∗ gAll m c
          ∗ (bigSep Finset.univ fun t : Fin 3 × Fin 4 => fin m c t.1 t.2) ∗ (bigSep Finset.univ fun k => xfin m c k) -∗ Q ⟨⟩)
      -∗ run (F := F) c (cc0_body pM h0 gM h1 oM h2 sM h3 rM h4 cc0_scratch2 cc0_scratch3 cc0_scratch4 cc0_scratch5) Q) := by
  rw [cc0_body_eq_skeleton]; unfold cc0_body_skel
  iintro #HK HO Hb Hc HL HR HX Hs Hxs Hpp HP HG Hk
  iapply (run_bind c)
  iapply (part1 h0 h1 h2 h3 h4 c)
  iintro %v2 %v5 %v8 %v19 %v31 %v33 %v34
  iapply (run_bind c)
  iapply (part2 m κ h0 h1 h2 h3 h4 c v2 v5 v8 v19 v31 v33 v34) $$ HK HO Hb Hc HL HR HX
  iintro %r ⟨HO, Hb, Hq, -, Hxq⟩
  obtain ⟨_, _, _⟩ := r
  ihave Hs := (start_fut (F := F) c) $$ [Hq Hs]
  · isplitl [Hq] <;> iassumption
  ihave Hxs := (xstart_fut (F := F) c) $$ [Hxq Hxs]
  · isplitl [Hxq] <;> iassumption
  ihave Hs := (Entails.of_eq (blocks_list (F := F) _)) $$ Hs
  ihave Hxs := (Entails.of_eq (rows_list (F := F) _)) $$ Hxs
  ihave Hpp := (Entails.of_eq (rows_list (F := F) _)) $$ Hpp
  icases Hs with ⟨H00, H01, H02, H03, H10, H11, H12, H13, H20, H21, H22, H23⟩
  icases Hxs with ⟨X0, X1, X2, X3⟩
  icases Hpp with ⟨P0, P1, P2, P3⟩
  ihave H00 := (first_ready m c 0) $$ H00 P0
  ihave H01 := (first_ready m c 1) $$ H01 P1
  ihave H02 := (first_ready m c 2) $$ H02 P2
  ihave H03 := (first_ready m c 3) $$ H03 P3
  iapply (run_bind c)
  iapply (part3 m κ h0 h1 h2 h3 h4 c _ _ _ _ _ _) $$ HK HO H00 H01
  iintro %r ⟨HO, H00, H01⟩
  obtain ⟨_, _⟩ := r
  iapply (run_bind c)
  iapply (part4 m κ h0 h1 h2 h3 h4 c _ _ _ _ _ _ _) $$ HK HO H02 H03
  iintro %r ⟨HO, H02, H03⟩
  iapply (run_bind c)
  iapply (part5 m κ h0 h1 h2 h3 h4 c _ _ _ _ _) $$ HK HO H00
  iintro %r ⟨HO, H00⟩
  obtain ⟨_, _, _, _⟩ := r
  iapply (run_bind c)
  iapply (part6 m κ h0 h1 h2 h3 h4 c _ _ _ _ _) $$ HK HO HP H00 H10
  iintro %r ⟨HO, HP, H00, H10⟩
  iapply (run_bind c)
  iapply (part7 m κ h0 h1 h2 h3 h4 c _ _ _ _ _) $$ HK HO HP H01 H11
  iintro %r ⟨HO, HP, H01, H11⟩
  iapply (run_bind c)
  iapply (part8 m κ h0 h1 h2 h3 h4 c _ _ _ _ _) $$ HK HO HP H02 H12
  iintro %r ⟨HO, HP, H02, H12⟩
  iapply (run_bind c)
  iapply (part9 m κ h0 h1 h2 h3 h4 c _ _ _ _ _) $$ HK HO HP H12 H03 H13
  iintro %r ⟨HO, HP, H12, H03, H13⟩
  obtain ⟨_, _⟩ := r
  iapply (run_bind c)
  iapply (part10 m κ h0 h1 h2 h3 h4 c _ _ _ _ _ _) $$ HK HO H13
  iintro %r ⟨HO, H13⟩
  iapply (run_bind c)
  iapply (part11 m κ h0 h1 h2 h3 h4 c _ _ _ _ _) $$ HK HO HP H10 H20
  iintro %r ⟨HO, HP, H10, H20⟩
  iapply (run_bind c)
  iapply (part12 m κ h0 h1 h2 h3 h4 c _ _ _ _ _ _) $$ HK HO HP H11 H21
  iintro %r ⟨HO, HP, H11, H21⟩
  iapply (run_bind c)
  iapply (part13 m κ h0 h1 h2 h3 h4 c _ _ _ _ _) $$ HK HO HP H21 H12 H22
  iintro %r ⟨HO, HP, H21, H12, H22⟩
  obtain ⟨_, _⟩ := r
  iapply (run_bind c)
  iapply (part14 m κ h0 h1 h2 h3 h4 c _ _ _ _ _ _ _) $$ HK HO HP H22 H13
  iintro ⟨HO, HP, H22, H13⟩
  iapply (run_bind c)
  iapply (part15 m κ h0 h1 h2 h3 h4 c _ _ _ _) $$ HK HO H23
  iintro %r ⟨HO, H23⟩
  obtain ⟨_, _⟩ := r
  iapply (run_bind c)
  iapply (part16 m κ h0 h1 h2 h3 h4 c _ _ _ _ _) $$ HK HO HP HG H20 X0
  iintro %r ⟨HO, HP, HG, H20, X0⟩
  iapply (run_bind c)
  iapply (part17 m κ h0 h1 h2 h3 h4 c _ _ _ _ _ _ _ _) $$ HK HO HP X0 H21
  iintro ⟨HO, HP, X0, H21⟩
  iapply (run_bind c)
  iapply (part18 m κ h0 h1 h2 h3 h4 c _ _ _ _ _ _) $$ HK HO HG X1
  iintro %r ⟨HO, HG, X1⟩
  iapply (run_bind c)
  iapply (part19 m κ h0 h1 h2 h3 h4 c _ _ _ _ _) $$ HK HO HP HG H22 X2
  iintro %r ⟨HO, HP, HG, H22, X2⟩
  obtain ⟨_, _⟩ := r
  iapply (run_bind c)
  iapply (part20 m κ h0 h1 h2 h3 h4 c _ _ _ _ _ _ _) $$ HK HO HP X2 H23
  iintro ⟨HO, HP, X2, H23⟩
  iapply (run_bind c)
  iapply (part21 m κ h0 h1 h2 h3 h4 c _ _ _ _ _ _) $$ HK HO HG X3 X0
  iintro %r ⟨HO, HG, X3, X0⟩
  obtain ⟨_, _⟩ := r
  iapply (run_bind c)
  iapply (part22 m κ h0 h1 h2 h3 h4 c _ _ _ _ _ _) $$ HK HO X1 X2 X3
  iintro %r ⟨HO, X1, X2, X3⟩
  iapply (run_bind c)
  iapply (part23 m κ h0 h1 h2 h3 h4 c) $$ HK HO H00 H01 H02 H03 H10
  iintro %r ⟨HO, H00, H01, H02, H03, H10⟩
  iapply (run_bind c)
  iapply (part24 m κ h0 h1 h2 h3 h4 c) $$ HK HO H11 H12 H13
  iintro %r ⟨HO, H11, H12, H13⟩
  iapply (run_bind c)
  iapply (part25 m κ h0 h1 h2 h3 h4 c) $$ HK HO H20 H21 H22 H23
  iintro %r ⟨HO, H20, H21, H22, H23⟩
  simp only [Prog.lift, Prog.bind_op, Prog.bind_ret, Prog.pure_eq_ret]
  iapply (curry (step_xsent m κ c 0 rfl (credit _))) $$ HK HO X0
  iintro ⟨HO, X0⟩
  iapply (curry (step_xsent m κ c 1 rfl (credit _))) $$ HK HO X1
  iintro ⟨HO, X1⟩
  iapply (curry (step_xsent m κ c 2 rfl (credit _))) $$ HK HO X2
  iintro ⟨HO, X2⟩
  iapply (curry (step_xsent m κ c 3 rfl (credit _))) $$ HK HO X3
  iintro ⟨HO, X3⟩
  iapply (step_ret c)
  iapply Hk
  rw [blocks_list, rows_list]
  isplitl [HO]; · iexact HO
  isplitl [Hb]; · iexact Hb
  isplitl [HP]; · iexact HP
  isplitl [HG]; · iexact HG
  isplitl [H00 H01 H02 H03 H10 H11 H12 H13 H20 H21 H22 H23]
  · isplitl [H00]; · iexact H00
    isplitl [H01]; · iexact H01
    isplitl [H02]; · iexact H02
    isplitl [H03]; · iexact H03
    isplitl [H10]; · iexact H10
    isplitl [H11]; · iexact H11
    isplitl [H12]; · iexact H12
    isplitl [H13]; · iexact H13
    isplitl [H20]; · iexact H20
    isplitl [H21]; · iexact H21
    isplitl [H22]; · iexact H22
    iexact H23
  isplitl [X0]; · iexact X0
  isplitl [X1]; · iexact X1
  isplitl [X2]; · iexact X2
  iexact X3

end Cert.KernelIdeal.Run
-- ==== Proof.Buffers.lean ====
/-
  The buffers cut into blocks and put together again: what the body takes apart before its first step and joins after its last.
-/
module

public import proofs.«01_k».proof.Proof.Body

@[expose] public section

set_option maxRecDepth 16384

noncomputable section

namespace Cert.KernelIdeal.Run

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds (URounds)

variable {F : FTy → Type} [FloatOps F]

local notation "𝕄" => MT nD τ sig Unit (Elt F) ℕ UU ℕ

variable (m : (ℓ : Loc nD τ sig) → Buf (Elt F) ℓ)

/-! ## The input: one read share for each block of the first step, the rest of it for the loads -/

/-- What is left of the read share of block k beside the block. -/
def pOther (c : Dev nD) (k : Fin 4) : sProp 𝕄 :=
  pM.view.loc (c : Thread nD τ) ↦[Finset.univ \ (PM c k).view.set]{pTok k} X m c

theorem p_share (c : Dev nD) (k : Fin 4) :
    (pM.view.loc (c : Thread nD τ) ↦[Finset.univ]{pTok k} X m c : sProp 𝕄) ⊣⊢ iprop(pPart m c k ∗ pOther m c k) :=
  pointsTo_split_subset (Finset.subset_univ _)

theorem p_split (c : Dev nD) :
    (pM.view.loc (c : Thread nD τ) ↦[Finset.univ]{fullShare} X m c : sProp 𝕄)
      ⊢ iprop(pRest m c ∗ bigSep Finset.univ (pPart m c) ∗ bigSep Finset.univ (pOther m c)) := by
  rw [← bigSep_sep']
  exact (Transfers.pointsTo_toks_split fullShare 4).trans (sep_mono .rfl (bigSep_mono fun k _ => (p_share m c k).1))

theorem p_join (c : Dev nD) :
    iprop(pRest m c ∗ bigSep Finset.univ (pPart m c) ∗ bigSep Finset.univ (pOther m c))
      ⊢ (pM.view.loc (c : Thread nD τ) ↦[Finset.univ]{fullShare} X m c : sProp 𝕄) := by
  rw [← bigSep_sep']
  exact (sep_mono .rfl (bigSep_mono fun k _ => (p_share m c k).2)).trans (Transfers.pointsTo_toks_join fullShare 4)

/-! ## A buffer at some contents, and the same in parts that tile it -/

section Tiled
variable {ℓ : Loc nD τ sig} {T : Type} [Fintype T] [DecidableEq T] (K : T → Finset (Idx ℓ))
  (hd : ∀ t t', t ≠ t' → Disjoint (K t) (K t')) (hcov : Finset.univ.biUnion K = Finset.univ)
include hd hcov

omit [FloatOps F] [DecidableEq T] in
theorem cut_any : (iprop(∃ f, ℓ ↦{fullShare} f) : sProp 𝕄) ⊢ bigSep Finset.univ fun t => iprop(∃ f, ℓ ↦[K t]{fullShare} f) := by
  iintro ⟨%f, H⟩
  ihave H := (show (ℓ ↦[Finset.univ]{fullShare} f : sProp 𝕄) ⊢ bigSep Finset.univ (fun t => ℓ ↦[K t]{fullShare} f) from by
    rw [← hcov, pointsTo_biUnion Finset.univ K fun t _ t' _ h => hd t t' h]) $$ H
  ihave H := (show (bigSep Finset.univ (fun t => ℓ ↦[K t]{fullShare} f) : sProp 𝕄) ⊢ bigSep Finset.univ (fun t => iprop(∃ f, ℓ ↦[K t]{fullShare} f)) from
    bigSep_mono fun t _ => by
      show (_ : sProp 𝕄) ⊢ _
      iintro H; iexists f; iexact H) $$ H
  iexact H

omit [FloatOps F] in
theorem paste_any (f₀ : Buf (Elt F) ℓ) :
    (bigSep Finset.univ fun t => iprop(∃ f, ℓ ↦[K t]{fullShare} f)) ⊢ (iprop(∃ f, ℓ ↦{fullShare} f) : sProp 𝕄) := by
  have : Nonempty (Buf (Elt F) ℓ) := ⟨f₀⟩
  refine (bigSep_exists_pi Finset.univ fun t (f : Buf (Elt F) ℓ) => (ℓ ↦[K t]{fullShare} f : sProp 𝕄)).trans ?_
  iintro ⟨%fs, H⟩
  ihave H := (pointsTo_biUnion_join Finset.univ K fs f₀ fun t _ t' _ h => hd t t' h) $$ H
  icases H with ⟨%g, -, H⟩
  rw [hcov]
  iexists g
  iexact H

end Tiled

/-! ## The two exchange buffers, slot by slot -/

section Slots
variable (M : Memref sig .tc .vmem S3x256x512 .f32) (hM : M.view.set = Finset.univ)

/-- Slot t of an exchange buffer, as the copies see it. -/
abbrev slotM (t : Fin 3 × Fin 4) : Memref sig .tc .vmem S64x512 .f32 :=
  (M.slice (slotRect t.1 t.2) (fun _ => rfl)).squeeze S64x512 squeezes_S1x64x512_S64x512

/-- The elements of slot t. -/
def slotSet (t : Fin 3 × Fin 4) : Finset M.view.ty.Idx := (slotRect t.1 t.2).set.map M.view.emb

theorem slotM_set (t : Fin 3 × Fin 4) : (slotM M t).view.set = slotSet M t :=
  (View.set_reshape _ _).trans (View.set_slice _ _)

theorem slotSet_disjoint (t t' : Fin 3 × Fin 4) (h : t ≠ t') : Disjoint (slotSet M t) (slotSet M t') :=
  (Finset.disjoint_map _).mpr (slot_disjoint t t' h)

include hM in
theorem slotSet_cover : (Finset.univ : Finset (Fin 3 × Fin 4)).biUnion (slotSet M) = Finset.univ := by
  rw [← hM]
  ext i
  constructor
  · intro hi
    obtain ⟨t, -, hi⟩ := Finset.mem_biUnion.mp hi
    obtain ⟨x, -, rfl⟩ := Finset.mem_map.mp hi
    exact Finset.mem_map_of_mem _ (Finset.mem_univ x)
  · intro hi
    obtain ⟨x, -, rfl⟩ := Finset.mem_map.mp hi
    obtain ⟨t, -, hx⟩ := Finset.mem_biUnion.mp (slot_cover.symm ▸ Finset.mem_univ x)
    exact Finset.mem_biUnion.mpr ⟨t, Finset.mem_univ _, Finset.mem_map_of_mem _ hx⟩

theorem slot_any (c : Dev nD) (t : Fin 3 × Fin 4) :
    (anyAt c (slotM M t) : sProp 𝕄) = iprop(∃ f, M.view.loc (c : Thread nD τ) ↦[slotSet M t]{fullShare} f) := by
  rw [← slotM_set]; rfl

include hM in
theorem slots_cut (c : Dev nD) :
    (iprop(∃ f, M.view.loc (c : Thread nD τ) ↦{fullShare} f) : sProp 𝕄) ⊢ bigSep Finset.univ fun t => anyAt c (slotM M t) := by
  refine (cut_any (slotSet M) (slotSet_disjoint M) (slotSet_cover M hM)).trans (bigSep_mono fun t _ => ?_)
  rw [slot_any]
  show (_ : sProp 𝕄) ⊢ _
  exact .rfl

include hM in
theorem slots_paste (c : Dev nD) (f₀ : Buf (Elt F) (M.view.loc (c : Thread nD τ))) :
    (bigSep Finset.univ fun t => anyAt c (slotM M t)) ⊢ (iprop(∃ f, M.view.loc (c : Thread nD τ) ↦{fullShare} f) : sProp 𝕄) := by
  refine BIBase.Entails.trans (bigSep_mono fun t _ => ?_) (paste_any (slotSet M) (slotSet_disjoint M) (slotSet_cover M hM) f₀)
  rw [slot_any]
  show (_ : sProp 𝕄) ⊢ _
  exact .rfl

end Slots

/-- Contents seen through a slot are some contents. -/
theorem owns_any (c : Dev nD) (M : Memref sig .tc .vmem S64x512 .f32) (w : Vec F S64x512 .f32) :
    (ownsTc c M fullShare w : sProp 𝕄) ⊢ anyAt c M := by
  iintro H
  ihave H' := (show (owns (c : Thread nD τ) M fullShare w : sProp 𝕄)
    ⊢ iprop(∃ g, ⌜M.view.read (Elt F) g = w⌝ ∗ M.view.loc (c : Thread nD τ) ↦[M.view.set]{fullShare} g) from .rfl) $$ H
  icases H' with ⟨%g, -, H⟩
  unfold anyAt
  iexists g
  iexact H

/-! ## The result: the device's own half and the half of its peer over x -/

/-- The finished result of device c: its own blocks in its own half, its peer's in the other. -/
def outW (c : Dev nD) : S512x512.Idx → Elt F .f32 := fun i =>
  outBlk m (if (i 0).val / 256 = cx c then c else xp c) ⟨(i 0).val % 256 / 64, by have : (i 0).val < 512 := (i 0).isLt; omega⟩
    (fun a => ⟨![(i 0).val % 64, (i 1).val] a, by
      have h1 : (i 1).val < 512 := (i 1).isLt
      fin_cases a
      · show (i 0).val % 64 < 64; omega
      · exact h1⟩)

theorem unit_emb_val {s : Shape} (off size : Fin s.rank → ℕ) (inb) (j : (Rect.unit off size inb).shape.Idx) (a : Fin s.rank) :
    ((Rect.unit off size inb).emb j a : ℕ) = off a + j a := by
  rw [Rect.emb_apply]; show off a + 1 * (j a : ℕ) = _; omega

theorem outW_block (c : Dev nD) (t : Fin 2 × Fin 4) (j : S64x512.Idx) : outW m c ((outPart c t).emb j) = outBlk m (half c t.1) t.2 j := by
  have hoff := off_out (half c t.1) t.2
  have h0 : ((outPart c t).emb j 0).val = 256 * cx (half c t.1) + 64 * t.2.val + (j 0).val := by
    rw [unit_emb_val]; exact congrArg (· + (j 0).val) (congrFun hoff 0)
  have h1 : ((outPart c t).emb j 1).val = (j 1).val := by
    rw [unit_emb_val]; exact (congrArg (· + (j 1).val) (congrFun hoff 1)).trans (Nat.zero_add _)
  have hj0 : (j 0).val < 64 := (j 0).isLt
  have hk := t.2.isLt
  have hx := cx_lt c
  have hc := cx_half c t.1
  generalize hi : (outPart c t).emb j = i at h0 h1 ⊢
  unfold outW
  have e1 : (if (i 0).val / 256 = cx c then c else xp c) = half c t.1 := by
    by_cases h : t.1 = 0
    · have e : half c t.1 = c := if_pos h
      rw [e] at h0 ⊢; exact if_pos (by omega)
    · have e : half c t.1 = xp c := if_neg h
      rw [if_neg h] at hc; rw [hc] at h0; rw [e]; exact if_neg (by omega)
  have hlt : cx (half c t.1) < 2 := cx_lt _
  rw [e1]
  congr 1
  · exact Fin.ext (by show (i 0).val % 256 / 64 = _; omega)
  · funext a
    refine Fin.ext ?_
    fin_cases a
    · show (i 0).val % 64 = _; rw [h0]; show _ = (j 0).val; omega
    · exact h1

theorem out_cut (c : Dev nD) (f : S512x512.Idx → Elt F .f32) :
    (oM.view.loc (c : Thread nD τ) ↦[Finset.univ]{fullShare} f : sProp 𝕄)
      ⊢ iprop((bigSep Finset.univ fun k : Fin 4 => anyAt c (OM c k)) ∗ bigSep Finset.univ fun k : Fin 4 => anyAt c (OM (xp c) k)) := by
  have h := pointsTo_rects (Ix := Unit) (Name := ℕ) (U := UU) (Lvl := ℕ) (c : Thread nD τ) oM fullShare (outPart c) (fun _ _ => rfl) (out_disjoint c) (out_cover c) f
  rw [show oM.view.set = Finset.univ from View.set_whole _] at h
  rw [h, bigSep_univ_prod, bigSep_fin_two]
  exact BIClass.sep_mono (bigSep_mono fun k _ => owns_any c (OM c k) _) (bigSep_mono fun k _ => owns_any c (OM (xp c) k) _)

theorem out_paste (c : Dev nD) :
    iprop((bigSep Finset.univ fun k : Fin 4 => ownsTc c (OM c k) fullShare (outBlk m c k))
        ∗ bigSep Finset.univ fun k : Fin 4 => ownsTc c (OM (xp c) k) fullShare (outBlk m (xp c) k))
      ⊢ (owns (c : Thread nD τ) oM fullShare (outW m c) : sProp 𝕄) := by
  refine BIBase.Entails.trans ?_ (owns_of_rects (c : Thread nD τ) oM fullShare (outPart c) (fun _ _ => rfl) (out_disjoint c) (out_cover c) (outW m c))
  rw [bigSep_univ_prod, bigSep_fin_two]
  have e (t : Fin 2 × Fin 4) : (fun j => outW m c ((outPart c t).emb j)) = outBlk m (half c t.1) t.2 := funext (outW_block m c t)
  simp only [e]
  exact .rfl

end Cert.KernelIdeal.Run
-- ==== Proof.Enter.lean ====
/-
  The body from its entry to its exit: from the ghost state the launch deals device c, with its buffers whole, to the result
  whole and every counter at zero.
-/
module

public import proofs.«01_k».proof.Proof.Buffers
public import Idealize.ShloMosaic.Lib.Rounds.Family

@[expose] public section

set_option maxRecDepth 16384

noncomputable section

namespace Cert.KernelIdeal.Run

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds (URounds)

variable {F : FTy → Type} [FloatOps F]

local notation "𝕄" => MT nD τ sig Unit (Elt F) ℕ UU ℕ

variable (m : (ℓ : Loc nD τ sig) → Buf (Elt F) ℓ) (κ : GSem nD τ sig → ℕ)

/-! ## A family over the ends, kind by kind -/

theorem ends_split (Φ : Ends → sProp 𝕄) :
    (bigSep Finset.univ Φ : sProp 𝕄) = iprop((bigSep Finset.univ fun t : Fin 3 × Fin 4 => Φ (sendE t.1 t.2))
      ∗ (bigSep Finset.univ fun t : Fin 3 × Fin 4 => Φ (recvE t.1 t.2))
      ∗ (bigSep Finset.univ fun k => Φ (xsendE k)) ∗ bigSep Finset.univ fun k => Φ (xrecvE k)) := by
  rw [BI.bigSep_univ_sum, BI.bigSep_univ_sum, BI.bigSep_univ_sum]
  rfl

/-- A family of pairs as two families. -/
theorem pair_of {I : Type} [DecidableEq I] {S : Finset I} {Φ Ψ : I → sProp 𝕄} :
    (bigSep S fun i => iprop(Φ i ∗ Ψ i)) ⊢ (iprop(bigSep S Φ ∗ bigSep S Ψ) : sProp 𝕄) := Entails.of_eq (bigSep_sep' ..)

/-! ## What the launch deals a device -/

/-- The tokens of the payments device c makes. -/
def toks (c : Dev nD) : sProp 𝕄 :=
  iprop(dutyTok ER (cellAt (lft c) (.reg barS)) 0 0 ∗ dutyTok ER (cellAt (rgt c) (.reg barS)) 0 1 ∗ dutyTok ER (cellAt (xp c) (.reg barS)) 0 2
    ∗ (bigSep Finset.univ fun t : Fin 3 × Fin 4 => dutyTok ER (cellAt c (osem (sendE t.1 t.2))) 0 0)
    ∗ (bigSep Finset.univ fun t : Fin 3 × Fin 4 => dutyTok ER (cellAt (rgt c) (osem (recvE t.1 t.2))) 0 0)
    ∗ (bigSep Finset.univ fun k => dutyTok ER (cellAt c (osem (xsendE k))) 0 0)
    ∗ bigSep Finset.univ fun k => dutyTok ER (cellAt (xp c) (osem (xrecvE k))) 0 0)

/-- The credit of the payments the others make to device c. -/
def creds (c : Dev nD) : sProp 𝕄 :=
  iprop(cred (tallyAt (cellAt c (.reg barS)) () 3)
    ∗ (bigSep Finset.univ fun t : Fin 3 × Fin 4 => cred (tallyAt (cellAt c (osem (recvE t.1 t.2))) () N))
    ∗ bigSep Finset.univ fun k => cred (tallyAt (cellAt c (osem (xrecvE k))) () N))

/-- The ends of device c's copies opened, each at its one round. -/
def openEnds (c : Dev nD) : sProp 𝕄 :=
  bigSep Finset.univ fun j : Ends => iprop(atPos ER (cellAt c (osem j)) 0 ∅ 0 ∗ reached ER (cellAt c (osem j)) 0)

/-! ## Dealing it out to the blocks -/

theorem deal_start (c : Dev nD) :
    iprop((bigSep Finset.univ fun t : Fin 3 × Fin 4 => iprop(atPos ER (cellAt c (osem (sendE t.1 t.2))) 0 ∅ 0 ∗ reached ER (cellAt c (osem (sendE t.1 t.2))) 0))
        ∗ (bigSep Finset.univ fun t : Fin 3 × Fin 4 => dutyTok ER (cellAt c (osem (sendE t.1 t.2))) 0 0)
        ∗ (bigSep Finset.univ fun t : Fin 3 × Fin 4 => dutyTok ER (cellAt (rgt c) (osem (recvE t.1 t.2))) 0 0)
        ∗ (bigSep Finset.univ fun t : Fin 3 × Fin 4 => atPos ER (cellAt c (osem (recvE t.1 t.2))) 0 ∅ 0)
        ∗ (bigSep Finset.univ fun t : Fin 3 × Fin 4 => cred (tallyAt (cellAt c (osem (recvE t.1 t.2))) () N))
        ∗ bigSep Finset.univ fun t : Fin 3 × Fin 4 => anyAt c (SM t.1 t.2))
      ⊢ (bigSep Finset.univ (start c) : sProp 𝕄) := by
  rw [← bigSep_sep', ← bigSep_sep', ← bigSep_sep', ← bigSep_sep', ← bigSep_sep']
  refine bigSep_mono fun t _ => ?_
  show (_ : sProp 𝕄) ⊢ _
  unfold start srcEnd waitIn
  iintro ⟨⟨Ha, Hr⟩, Ht, Ht', Hb, Hc, Hs⟩
  isplitl [Ha Hr Ht]
  · isplitl [Ha]; · iexact Ha
    isplitl [Hr]; · iexact Hr
    iexact Ht
  isplitl [Ht']; · iexact Ht'
  isplitl [Hb Hc]
  · isplitl [Hb]; · iexact Hb
    iexact Hc
  iexact Hs

theorem deal_xstart (c : Dev nD) :
    iprop((bigSep Finset.univ fun k : Fin 4 => iprop(atPos ER (cellAt c (osem (xsendE k))) 0 ∅ 0 ∗ reached ER (cellAt c (osem (xsendE k))) 0))
        ∗ (bigSep Finset.univ fun k : Fin 4 => dutyTok ER (cellAt c (osem (xsendE k))) 0 0)
        ∗ (bigSep Finset.univ fun k : Fin 4 => dutyTok ER (cellAt (xp c) (osem (xrecvE k))) 0 0)
        ∗ (bigSep Finset.univ fun k : Fin 4 => atPos ER (cellAt c (osem (xrecvE k))) 0 ∅ 0)
        ∗ (bigSep Finset.univ fun k : Fin 4 => cred (tallyAt (cellAt c (osem (xrecvE k))) () N))
        ∗ bigSep Finset.univ fun k : Fin 4 => anyAt c (OM c k))
      ⊢ (bigSep Finset.univ (xstart c) : sProp 𝕄) := by
  rw [← bigSep_sep', ← bigSep_sep', ← bigSep_sep', ← bigSep_sep', ← bigSep_sep']
  refine bigSep_mono fun k _ => ?_
  show (_ : sProp 𝕄) ⊢ _
  unfold xstart srcEnd waitIn
  iintro ⟨⟨Ha, Hr⟩, Ht, Ht', Hb, Hc, Hs⟩
  isplitl [Ha Hr Ht]
  · isplitl [Ha]; · iexact Ha
    isplitl [Hr]; · iexact Hr
    iexact Ht
  isplitl [Ht']; · iexact Ht'
  isplitl [Hb Hc]
  · isplitl [Hb]; · iexact Hb
    iexact Hc
  iexact Hs

/-- What device c hands its left neighbour: its own receive slots. -/
theorem pay_left (c : Dev nD) :
    iprop((bigSep Finset.univ fun t : Fin 3 × Fin 4 => anyAt c (RM t.1 t.2))
        ∗ bigSep Finset.univ fun t : Fin 3 × Fin 4 => reached ER (cellAt c (osem (recvE t.1 t.2))) 0)
      ⊢ (barPay (lft c) 0 : sProp 𝕄) := by
  rw [← bigSep_sep']
  unfold barPay
  rw [if_pos rfl, rgt_lft]

/-- What it hands its peer over x: the rows of its result the peer writes. -/
theorem pay_peer (c : Dev nD) :
    iprop((bigSep Finset.univ fun k : Fin 4 => anyAt c (OM (xp c) k))
        ∗ bigSep Finset.univ fun k : Fin 4 => reached ER (cellAt c (osem (xrecvE k))) 0)
      ⊢ (barPay (xp c) 2 : sProp 𝕄) := by
  rw [← bigSep_sep']
  unfold barPay
  rw [if_neg (by decide), if_neg (by decide), xp_xp]

/-! ## Taking it back -/

theorem back_part (c : Dev nD) :
    (bigSep Finset.univ fun t : Fin 3 × Fin 4 => if t.1 = 0 then pPart m c t.2 else iprop(emp)) ⊢ (bigSep Finset.univ (pPart m c) : sProp 𝕄) := by
  rw [bigSep_univ_prod]
  exact oneOf (Φ := fun s : Fin 3 => bigSep Finset.univ fun k : Fin 4 => if s = 0 then pPart m c k else iprop(emp)) (Finset.mem_univ 0)

theorem back_fin (c : Dev nD) :
    (bigSep Finset.univ fun t : Fin 3 × Fin 4 => fin m c t.1 t.2)
      ⊢ iprop((bigSep Finset.univ fun t : Fin 3 × Fin 4 => past c (sendE t.1 t.2))
        ∗ (bigSep Finset.univ fun t : Fin 3 × Fin 4 => past c (recvE t.1 t.2))
        ∗ (bigSep Finset.univ fun t : Fin 3 × Fin 4 => anyAt c (RM t.1 t.2))
        ∗ (bigSep Finset.univ fun t : Fin 3 × Fin 4 => anyAt c (SM t.1 t.2))
        ∗ bigSep Finset.univ fun t : Fin 3 × Fin 4 => if t.1 = 0 then pPart m c t.2 else iprop(emp)) := by
  rw [← bigSep_sep', ← bigSep_sep', ← bigSep_sep', ← bigSep_sep']
  refine bigSep_mono fun t _ => ?_
  show (_ : sProp 𝕄) ⊢ _
  unfold fin srcPay spare
  refine BIClass.sep_mono .rfl (BIClass.sep_mono .rfl (BIClass.sep_mono (owns_any c (RM t.1 t.2) _) ?_))
  by_cases h : t.1 = 0
  · rw [if_pos h, if_pos h, if_pos h]
    show (_ : sProp 𝕄) ⊢ _
    iintro ⟨HP, HS⟩
    isplitl [HS]; · iexact HS
    iexact HP
  · rw [if_neg h, if_neg h, if_neg h]
    show (_ : sProp 𝕄) ⊢ _
    iintro ⟨HP, HS⟩
    isplitl [HP]; · iapply (owns_any c (SM t.1 t.2) _); iexact HP
    iexact HS

theorem back_xfin (c : Dev nD) :
    (bigSep Finset.univ fun k : Fin 4 => xfin m c k)
      ⊢ iprop((bigSep Finset.univ fun k => past c (xsendE k)) ∗ (bigSep Finset.univ fun k => past c (xrecvE k)) ∗ owns (c : Thread nD τ) oM fullShare (outW m c)) := by
  refine BIBase.Entails.trans ?_ (BIClass.sep_mono .rfl (BIClass.sep_mono .rfl (out_paste m c)))
  rw [← bigSep_sep', ← bigSep_sep', ← bigSep_sep']
  refine bigSep_mono fun k _ => ?_
  show (_ : sProp 𝕄) ⊢ _
  unfold xfin
  iintro ⟨Hs, Hr, Hx, Ho⟩
  isplitl [Hs]; · iexact Hs
  isplitl [Hr]; · iexact Hr
  isplitl [Ho]; · iexact Ho
  iexact Hx

/-! ## The counters at the end -/

theorem close_ends (c : Dev nD) :
    known m κ ⊢ iprop(bigSep Finset.univ (past c) -∗ |={Set.univ}=> bigSep Finset.univ fun j : Ends => (semVal (cellAt c (osem j)) 0 : sProp 𝕄)) := by
  iintro #HK Hp
  iapply (Rounds.cells_close ER (sched m) (Finset.univ : Finset Ends) (fun j => cellAt c (osem j)) (fun j => κ (cellAt c (osem j)))
    (fun _ _ => Set.mem_univ _) (fun _ _ => id) (fun _ => 0 + 1) (fun j _ => duties_later m (cellAt c (osem j))))
  iapply (bigSep_with_persistent (R := known m κ) (Φ := past c) fun j _ => by
    show (_ : sProp 𝕄) ⊢ _
    unfold past
    iintro ⟨#HK, Hp⟩
    isplitr; · iapply (known_end m κ c j); iexact HK
    iexact Hp)
  isplitr; · iexact HK
  iexact Hp

theorem close_bar (c : Dev nD) :
    known m κ ⊢ iprop(atPos ER (cellAt c (.reg barS)) (0 + 1) ∅ 0 -∗ |={Set.univ}=> (semVal (cellAt c (.reg barS)) 0 : sProp 𝕄)) := by
  iintro #HK Hp
  ihave #HB := (known_bar m κ c) $$ HK
  icases HB with ⟨#HI, -⟩
  iapply (Rounds.cell_close ER (sched m) (g := cellAt c (.reg barS)) (κ := κ (cellAt c (.reg barS))) (Set.mem_univ _) id (R := 0 + 1)
    (duties_later m (cellAt c (.reg barS))))
  isplitr; · iexact HI
  iexact Hp

/-! ## The body, whole -/

section Whole

variable (h0 : pM.IsWhole) (h1 : gM.IsWhole) (h2 : oM.IsWhole) (h3 : sM.IsWhole) (h4 : rM.IsWhole)

/-- From what the launch deals, the four buffers whole and the input in place: the body ends with all counters at zero, the
    input as it was and the result `outW m c`. -/
theorem whole_run (c : Dev nD) {Q : PUnit → sProp 𝕄} :
    iprop(known m κ ∗ atPos ER (cellAt c (.reg barS)) 0 ∅ 0 ∗ openEnds c ∗ toks c ∗ creds c ∗ owing c 0
        ∗ (∃ f, sM.view.loc (c : Thread nD τ) ↦{fullShare} f) ∗ (∃ f, rM.view.loc (c : Thread nD τ) ↦{fullShare} f)
        ∗ (pM.view.loc (c : Thread nD τ) ↦[Finset.univ]{fullShare} X m c) ∗ gAll m c
        ∗ (∃ f, oM.view.loc (c : Thread nD τ) ↦[Finset.univ]{fullShare} f))
      ⊢ iprop((owing c 19 ∗ (semVal (cellAt c (.reg barS)) 0 ∗ bigSep Finset.univ fun j : Ends => semVal (cellAt c (osem j)) 0)
          ∗ (∃ f, sM.view.loc (c : Thread nD τ) ↦{fullShare} f) ∗ (∃ f, rM.view.loc (c : Thread nD τ) ↦{fullShare} f)
          ∗ (pM.view.loc (c : Thread nD τ) ↦[Finset.univ]{fullShare} X m c) ∗ gAll m c
          ∗ owns (c : Thread nD τ) oM fullShare (outW m c) -∗ Q ⟨⟩)
        -∗ run (F := F) c (cc0_body pM h0 gM h1 oM h2 sM h3 rM h4 cc0_scratch2 cc0_scratch3 cc0_scratch4 cc0_scratch5) Q) := by
  unfold openEnds toks creds
  rw [ends_split]
  iintro ⟨#HK, HB, ⟨Es, Er, Exs, Exr⟩, ⟨Tl, Tr, Tx, Ts, Tv, Txs, Txv⟩, ⟨Cb, Cv, Cx⟩, HO, Hs, Hr, Hp, Hg, ⟨%fo, Ho⟩⟩ HQ
  ihave Hs := (slots_cut sM (View.set_whole _) c) $$ Hs
  ihave Hr := (slots_cut rM (View.set_whole _) c) $$ Hr
  ihave Hp := (p_split m c) $$ Hp
  icases Hp with ⟨Hp, Hpp, Hpo⟩
  ihave Ho := (out_cut c fo) $$ Ho
  icases Ho with ⟨Ho, Hox⟩
  ihave Er := (pair_of (Φ := fun t : Fin 3 × Fin 4 => (atPos ER (cellAt c (osem (recvE t.1 t.2))) 0 ∅ 0 : sProp 𝕄)) (Ψ := fun t : Fin 3 × Fin 4 => reached ER (cellAt c (osem (recvE t.1 t.2))) 0)) $$ Er
  icases Er with ⟨Er, Rr⟩
  ihave Exr := (pair_of (Φ := fun k : Fin 4 => (atPos ER (cellAt c (osem (xrecvE k))) 0 ∅ 0 : sProp 𝕄)) (Ψ := fun k : Fin 4 => reached ER (cellAt c (osem (xrecvE k))) 0)) $$ Exr
  icases Exr with ⟨Exr, Rx⟩
  ihave St := (deal_start c) $$ [Es Ts Tv Er Cv Hs]
  · isplitl [Es]; · iexact Es
    isplitl [Ts]; · iexact Ts
    isplitl [Tv]; · iexact Tv
    isplitl [Er]; · iexact Er
    isplitl [Cv]; · iexact Cv
    iexact Hs
  ihave Sx := (deal_xstart c) $$ [Exs Txs Txv Exr Cx Ho]
  · isplitl [Exs]; · iexact Exs
    isplitl [Txs]; · iexact Txs
    isplitl [Txv]; · iexact Txv
    isplitl [Exr]; · iexact Exr
    isplitl [Cx]; · iexact Cx
    iexact Ho
  ihave Pl := (pay_left c) $$ [Hr Rr]
  · isplitl [Hr]; · iexact Hr
    iexact Rr
  ihave Px := (pay_peer c) $$ [Hox Rx]
  · isplitl [Hox]; · iexact Hox
    iexact Rx
  unfold run
  iapply (wp_fupd _ _ _ _)
  ihave HW := (body_run m κ h0 h1 h2 h3 h4 c (Q := fun a => iprop(|={Set.univ}=> Q a))) $$ HK
  iapply HW $$ HO HB Cb [Tl Pl] Tr [Tx Px] St Sx Hpp Hp Hg
  · isplitl [Tl]; · iexact Tl
    iexact Pl
  · isplitl [Tx]; · iexact Tx
    iexact Px
  iintro ⟨HO, HB, Hp, Hg, Hf, Hx⟩
  ihave Hf := (back_fin m c) $$ Hf
  icases Hf with ⟨Es, Er, Hr, Hs, Hpp⟩
  ihave Hpp := (back_part m c) $$ Hpp
  ihave Hx := (back_xfin m c) $$ Hx
  icases Hx with ⟨Exs, Exr, Ho⟩
  imod (close_bar m κ c) $$ HK HB with HB
  imod (close_ends m κ c) $$ HK [Es Er Exs Exr] with HE
  · rw [ends_split]
    isplitl [Es]; · iexact Es
    isplitl [Er]; · iexact Er
    isplitl [Exs]; · iexact Exs
    iexact Exr
  imodintro
  iapply HQ
  isplitl [HO]; · iexact HO
  isplitl [HB HE]
  · isplitl [HB]; · iexact HB
    iexact HE
  isplitl [Hs]; · iapply (slots_paste sM (View.set_whole _) c (m (sM.view.loc (c : Thread nD τ)))); iexact Hs
  isplitl [Hr]; · iapply (slots_paste rM (View.set_whole _) c (m (rM.view.loc (c : Thread nD τ)))); iexact Hr
  isplitl [Hp Hpp Hpo]
  · iapply (p_join m c)
    isplitl [Hp]; · iexact Hp
    isplitl [Hpp]; · iexact Hpp
    iexact Hpo
  isplitl [Hg]; · iexact Hg
  iexact Ho

end Whole

end Cert.KernelIdeal.Run
-- ==== Proof.Region.lean ====
/-
  The region: the body as the pipeline calls it at its one point, the copies of the whole arrays in and out around it.
-/
module

public import proofs.«01_k».proof.Proof.Enter

@[expose] public section

set_option maxRecDepth 16384

noncomputable section

namespace Cert.KernelIdeal.Run

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds (URounds)
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The arrays before and after -/

/-- The whole arrays of a window are its one block. -/
theorem blk0 (f : S2048x512.Idx → Elt F .f32) (t : Fin cfg0.N) : ((cfg0.win 0).blk t).view.read (Elt F) f = f :=
  Memref.read_access_unit_zero (Elt F) main_v1 (off := fun a => win0_0.index t a * main_v1.ty.shape.size a) (funext fun a => Nat.zero_mul _) _ f
theorem blk1 (f : S1x512.Idx → Elt F .f32) (t : Fin cfg0.N) : ((cfg0.win 1).blk t).view.read (Elt F) f = f :=
  Memref.read_access_unit_zero (Elt F) main_v2 (off := fun a => win0_1.index t a * main_v2.ty.shape.size a) (funext fun a => Nat.zero_mul _) _ f
theorem blk2 (f : S512x512.Idx → Elt F .f32) (t : Fin cfg0.N) : ((cfg0.win 2).blk t).view.read (Elt F) f = f :=
  Memref.read_access_unit_zero (Elt F) main_v3 (off := fun a => win0_2.index t a * main_v3.ty.shape.size a) (funext fun a => Nat.zero_mul _) _ f

theorem iblk0 (c : Dev nD) (t : Fin cfg0.N) : iblk m c 0 t = X m c := blk0 _ t
theorem iblk1 (c : Dev nD) (t : Fin cfg0.N) : iblk m c 1 t = G m c := blk1 _ t

/-! ## The proof data -/

/-- What enters the region beside the buffers: the ghost state opened, the credit. -/
def entry (c : Dev nD) : sProp 𝕄 :=
  iprop((creds c ∗ ∃ κ, known m κ ∗ atPos ER (cellAt c (.reg barS)) 0 ∅ 0 ∗ openEnds c ∗ toks c))
/-- The two exchange buffers at some contents, and the register no operation of the body reads. -/
def rest (c : Dev nD) : sProp 𝕄 :=
  iprop(((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)) ∗ ∃ r, prngReg c r)
def zeros (c : Dev nD) : sProp 𝕄 := bigSep Finset.univ fun j : Ends => semVal (cellAt c (osem j)) 0

def dat0 (c : Dev nD) : Dat τ (Elt F) Unit ℕ UU ℕ cfg0 c where
  A w := V m c (Pipeline.arrRef spec0 w)
  after := fun
    | 0, t => iblk m c 0 t
    | 1, t => iblk m c 1 t
    | 2, _ => outW m c
    | ⟨_ + 3, h⟩, _ => absurd h (Nat.not_lt.2 (Nat.le_add_left _ _))
  Φ t := if t.val = 0 then iprop(entry m c ∗ rest c) else iprop((semVal (cellAt c (.reg barS)) 0 ∗ zeros c) ∗ rest c)
  q _ := fullShare
  owed t := if t.val = 0 then owedAt c 0 else 0

theorem found0 (c : Dev nD) (t : Fin cfg0.N) (d) : (dat0 m c).before 0 t d = X m c := by
  unfold Dat.before
  rw [if_pos (fetch0_0 t)]
  exact blk0 (F := F) (X m c) t
theorem found1 (c : Dev nD) (t : Fin cfg0.N) (d) : (dat0 m c).before 1 t d = G m c := by
  unfold Dat.before
  rw [if_pos (fetch0_1 t)]
  exact blk1 (F := F) (G m c) t

theorem owed_start (c : Dev nD) : (dat0 m c).owed 0 = owedAt c 0 := rfl
theorem owed_first (c : Dev nD) : (dat0 m c).owed t0_0.castSucc = owedAt c 0 := rfl
theorem owed_last (c : Dev nD) : (dat0 m c).owed (Fin.last _) = 0 := by
  show (if (Fin.last cfg0.N).val = 0 then owedAt c 0 else 0) = 0
  rw [Fin.val_last, if_neg (by rw [show cfg0.N = 1 from N_0]; decide)]

theorem owes_in {c : Dev nD} (dat : Dat τ (Elt F) Unit ℕ UU ℕ cfg0 c) (t : Fin (cfg0.N + 1)) (n : ℕ) (h : dat.owed t = owedAt c n)
    (hr : dat.recorded t = Set.univ) : (owing c n : sProp 𝕄) ⊢ dat.owesAt () t := by
  unfold owing Dat.owesAt Pipeline.owesWithin Dat.bound
  rw [h, hr]
  iintro ⟨%W, HO⟩
  iexists W
  isplitr; · ipureintro; exact fun _ _ => Or.inl trivial
  iexact HO
theorem owes_out {c : Dev nD} (dat : Dat τ (Elt F) Unit ℕ UU ℕ cfg0 c) (t : Fin (cfg0.N + 1)) (n : ℕ) (h : dat.owed t = owedAt c n) :
    (dat.owesAt () t : sProp 𝕄) ⊢ owing c n := by
  unfold owing Dat.owesAt Pipeline.owesWithin
  rw [h]
  iintro ⟨%W, -, HO⟩
  iexists W
  iexact HO

/-- The body's obligation at the one point. -/
theorem body0 (c : Dev nD) : BodyObligation (dat0 m c) defs₀ 𝒱₀ () Set.univ := fun t => by
  obtain rfl := fin_N0 t
  rw [bigSep_W0, bigSep_W0]
  rw [show (dat0 m c).Φ t0_0.castSucc = iprop(entry m c ∗ rest c) from rfl,
    show (dat0 m c).Φ t0_0.succ = iprop((semVal (cellAt c (.reg barS)) 0 ∗ zeros c) ∗ rest c) from rfl]
  have e0 : (dat0 m c).after 0 t0_0 = X m c := iblk0 m c t0_0
  have e1 : (dat0 m c).after 1 t0_0 = G m c := iblk1 m c t0_0
  have e2 : (dat0 m c).after 2 t0_0 = outW m c := rfl
  rw [e0, e1, e2]
  unfold entry rest zeros
  iintro ⟨⟨⟨HC, %κ, #HK, HB, HE, HT⟩, ⟨Hs, Hr⟩, Hg⟩, HO, ⟨%d0, H0⟩, ⟨%d1, H1⟩, ⟨%d2, H2⟩⟩
  rw [found0, found1]
  ihave HO := (owes_out (dat0 m c) _ 0 (owed_first m c)) $$ HO
  ihave H0 := (show owns (c : Thread nD τ) ((cfg0.win 0).stage (cfg0.slots t0_0 0)) fullShare (X m c) ⊢ (pM.view.loc (c : Thread nD τ) ↦[Finset.univ]{fullShare} X m c : sProp 𝕄)
    from Entails.of_eq (owns_whole (c : Thread nD τ) cc0_stg0_0 fullShare (X m c))) $$ H0
  ihave H1 := (show owns (c : Thread nD τ) ((cfg0.win 1).stage (cfg0.slots t0_0 1)) fullShare (G m c) ⊢ (gAll m c : sProp 𝕄)
    from Entails.of_eq (owns_whole (c : Thread nD τ) cc0_stg1_0 fullShare (G m c))) $$ H1
  ihave H2 := (show owns (c : Thread nD τ) ((cfg0.win 2).stage (cfg0.slots t0_0 2)) fullShare ((dat0 m c).before 2 t0_0 d2) ⊢ (iprop(∃ f, oM.view.loc (c : Thread nD τ) ↦[Finset.univ]{fullShare} f) : sProp 𝕄)
    from (Entails.of_eq (owns_whole (c : Thread nD τ) cc0_stg2_0 fullShare ((dat0 m c).before 2 t0_0 d2))).trans (by iintro H; iexists _; iexact H)) $$ H2
  iapply (whole_run m κ (Memref.isWhole_whole _) (Memref.isWhole_whole _) (Memref.isWhole_whole _) (Memref.isWhole_whole _) (Memref.isWhole_whole _) c) $$ [HB HE HT HC HO Hs Hr H0 H1 H2]
  · isplitr; · iexact HK
    isplitl [HB]; · iexact HB
    isplitl [HE]; · iexact HE
    isplitl [HT]; · iexact HT
    isplitl [HC]; · iexact HC
    isplitl [HO]; · iexact HO
    isplitl [Hs]; · iexact Hs
    isplitl [Hr]; · iexact Hr
    isplitl [H0]; · iexact H0
    isplitl [H1]; · iexact H1
    iexact H2
  iintro ⟨HO, Hz, Hs, Hr, H0, H1, H2⟩
  isplitl [Hz Hs Hr Hg]
  · isplitl [Hz]; · iexact Hz
    isplitl [Hs Hr]
    · isplitl [Hs]; · iexact Hs
      iexact Hr
    iexact Hg
  isplitl [HO]; · iapply (owes_in (dat0 m c) t0_0.succ 19 ((owed_last m c).trans (owed_all c).symm) rfl); iexact HO
  isplitl [H0]
  · iapply (show (pM.view.loc (c : Thread nD τ) ↦[Finset.univ]{fullShare} X m c : sProp 𝕄) ⊢ owns (c : Thread nD τ) ((cfg0.win 0).stage (cfg0.slots t0_0 0)) fullShare (X m c)
      from Entails.of_eq (owns_whole (c : Thread nD τ) cc0_stg0_0 fullShare (X m c)).symm)
    iexact H0
  isplitl [H1]
  · iapply (show (gAll m c : sProp 𝕄) ⊢ owns (c : Thread nD τ) ((cfg0.win 1).stage (cfg0.slots t0_0 1)) fullShare (G m c)
      from Entails.of_eq (owns_whole (c : Thread nD τ) cc0_stg1_0 fullShare (G m c)).symm)
    iexact H1
  iexact H2

end Cert.KernelIdeal.Run
-- ==== Proof.Deal.lean ====
/-
  What the launch allocates and deals: each device's barrier cell and the ends of its copies, the tokens of the payments, the credit for them.
-/
module

public import proofs.«01_k».proof.Proof.Region

@[expose] public section

set_option maxRecDepth 16384

noncomputable section

namespace Cert.KernelIdeal.Run

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds (URounds)
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The cells and the tokens -/

def barEmb : Dev nD ↪ GSem nD τ sig := ⟨fun c => cellAt c (.reg barS), fun _ _ h => congrArg (fun g : GSem nD τ sig => g.1.1) h⟩
def endEmb : Dev nD × Ends ↪ GSem nD τ sig :=
  ⟨fun x => cellAt x.1 (osem x.2), fun _ _ h => Prod.ext (congrArg (fun g : GSem nD τ sig => g.1.1) h) (osem_inj (congrArg Prod.snd h))⟩

abbrev barCells : Finset (GSem nD τ sig) := Finset.univ.map barEmb
abbrev endCells : Finset (GSem nD τ sig) := Finset.univ.map endEmb

theorem osem_ne_bar (j : Ends) : osem j ≠ .reg barS := by intro h; cases h

theorem cells_disjoint : Disjoint (barCells : Finset (GSem nD τ sig)) endCells := by
  rw [Finset.disjoint_left]
  intro g hb he
  obtain ⟨c, -, rfl⟩ := Finset.mem_map.mp hb
  obtain ⟨x, -, h⟩ := Finset.mem_map.mp he
  exact osem_ne_bar x.2 (congrArg Prod.snd h)

/-- The token of a duty: three of the barrier's one round, one of the round of each end. -/
def tokAt (c : Dev nD) : Fin 3 ⊕ Ends → GSem nD τ sig × ℕ × Fin 3
  | .inl d => (cellAt c (.reg barS), 0, d)
  | .inr j => (cellAt c (osem j), 0, 0)

theorem tokAt_inj : Function.Injective fun x : Dev nD × (Fin 3 ⊕ Ends) => tokAt x.1 x.2 := by
  rintro ⟨c, k⟩ ⟨c', k'⟩ h
  rcases k with d | j <;> rcases k' with d' | j'
  · have h1 : c = c' := congrArg (fun t : GSem nD τ sig × ℕ × Fin 3 => t.1.1.1) h
    have h2 : d = d' := congrArg (fun t : GSem nD τ sig × ℕ × Fin 3 => t.2.2) h
    rw [h1, h2]
  · exact absurd (congrArg (fun t : GSem nD τ sig × ℕ × Fin 3 => t.1.2) h).symm (osem_ne_bar j')
  · exact absurd (congrArg (fun t : GSem nD τ sig × ℕ × Fin 3 => t.1.2) h) (osem_ne_bar j)
  · have h1 : c = c' := congrArg (fun t : GSem nD τ sig × ℕ × Fin 3 => t.1.1.1) h
    have h2 : j = j' := osem_inj (congrArg (fun t : GSem nD τ sig × ℕ × Fin 3 => t.1.2) h)
    rw [h1, h2]

def allToks : Finset (GSem nD τ sig × ℕ × Fin 3) := Finset.univ.map ⟨fun x : Dev nD × (Fin 3 ⊕ Ends) => tokAt x.1 x.2, tokAt_inj⟩

theorem four_of {A B C D : sProp 𝕄} : iprop((A ∗ B ∗ C) ∗ D) ⊢ iprop(A ∗ B ∗ C ∗ D) := by
  iintro ⟨⟨HA, HB, HC⟩, HD⟩
  isplitl [HA]; · iexact HA
  isplitl [HB]; · iexact HB
  isplitl [HC]; · iexact HC
  iexact HD
theorem evens {A B C D : sProp 𝕄} : iprop(A ∗ B ∗ C ∗ D) ⊢ iprop(B ∗ D) := by
  iintro ⟨-, HB, -, HD⟩
  isplitl [HB]; · iexact HB
  iexact HD
theorem swap_mid {A B C D : sProp 𝕄} : iprop((A ∗ B) ∗ C ∗ D) ⊢ iprop((A ∗ C) ∗ B ∗ D) := by
  iintro ⟨⟨HA, HB⟩, HC, HD⟩
  isplitl [HA HC]; · isplitl [HA] <;> iassumption
  isplitl [HB]; · iexact HB
  iexact HD

/-- The tokens of a device's own cells. -/
def ownToks (c : Dev nD) : sProp 𝕄 :=
  iprop(dutyTok ER (cellAt c (.reg barS)) 0 0 ∗ dutyTok ER (cellAt c (.reg barS)) 0 1 ∗ dutyTok ER (cellAt c (.reg barS)) 0 2
    ∗ (bigSep Finset.univ fun t : Fin 3 × Fin 4 => dutyTok ER (cellAt c (osem (sendE t.1 t.2))) 0 0)
    ∗ (bigSep Finset.univ fun t : Fin 3 × Fin 4 => dutyTok ER (cellAt c (osem (recvE t.1 t.2))) 0 0)
    ∗ (bigSep Finset.univ fun k => dutyTok ER (cellAt c (osem (xsendE k))) 0 0)
    ∗ bigSep Finset.univ fun k => dutyTok ER (cellAt c (osem (xrecvE k))) 0 0)

theorem three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

theorem toks_dealt : bigSep allToks (fun x => (dutyTok ER x.1 x.2.1 x.2.2 : sProp 𝕄)) ⊢ bigSep Finset.univ fun c : Dev nD => ownToks c := by
  unfold allToks
  rw [bigSep_map, bigSep_univ_prod]
  refine bigSep_mono fun c _ => ?_
  show (_ : sProp 𝕄) ⊢ _
  rw [bigSep_univ_sum, three, ends_split]
  unfold ownToks
  exact four_of

/-- Each token handed to the device that makes the payment. -/
theorem toks_moved : (bigSep Finset.univ fun c : Dev nD => (ownToks c : sProp 𝕄)) ⊢ bigSep Finset.univ fun c : Dev nD => toks c := by
  unfold ownToks toks
  simp only [bigSep_sep']
  rw [bigSep_univ_equiv lftE (fun c : Dev nD => (dutyTok ER (cellAt c (.reg barS)) 0 0 : sProp 𝕄)),
    bigSep_univ_equiv rgtE (fun c : Dev nD => (dutyTok ER (cellAt c (.reg barS)) 0 1 : sProp 𝕄)),
    bigSep_univ_equiv xpE (fun c : Dev nD => (dutyTok ER (cellAt c (.reg barS)) 0 2 : sProp 𝕄)),
    bigSep_univ_equiv rgtE (fun c : Dev nD => (bigSep Finset.univ fun t : Fin 3 × Fin 4 => dutyTok ER (cellAt c (osem (recvE t.1 t.2))) 0 0 : sProp 𝕄)),
    bigSep_univ_equiv xpE (fun c : Dev nD => (bigSep Finset.univ fun k => dutyTok ER (cellAt c (osem (xrecvE k))) 0 0 : sProp 𝕄))]
  exact .rfl

/-! ## The credit -/

theorem credOf_bar : credOf (.reg barS) = 3 := by
  unfold credOf
  rw [Finset.sum_congr rfl fun i _ => show (if SemLoc.reg barS = paySem i then payAmt i else 0) = if i.val < 3 then 1 else 0 from by
    unfold paySem payAmt
    by_cases h : i.val < 3
    · rw [if_pos h, if_pos h, if_pos h]; exact if_pos rfl
    · rw [if_neg h, if_neg h]; split <;> exact if_neg (fun e => by cases e)]
  decide

/-- A semaphore that exactly one payment lands on is paid that payment's amount. -/
theorem credOf_one (i : Fin 19) (h : ∀ i' : Fin 19, paySem i' = paySem i → i' = i) : credOf (paySem i) = payAmt i := by
  unfold credOf
  rw [Finset.sum_eq_single i (fun i' _ hne => if_neg fun e => hne (h i' e.symm)) (fun hn => absurd (Finset.mem_univ i) hn), if_pos rfl]

theorem pay_once : ∀ i i' : Fin 19, 3 ≤ i.val → paySem i' = paySem i → i' = i := by decide +kernel

theorem credOf_recv (s : Fin 3) (k : Fin 4) : credOf (osem (recvE s k)) = N := by
  rw [← payOf_sem, credOf_one (payOf s k) fun i' => pay_once (payOf s k) i' (by show 3 ≤ 3 + 4 * s.val + k.val; omega), payOf_amt]
theorem credOf_xrecv (k : Fin 4) : credOf (osem (xrecvE k)) = N := by
  rw [← xpayOf_sem, credOf_one (xpayOf k) fun i' => pay_once (xpayOf k) i' (by show 3 ≤ 15 + k.val; omega), xpayOf_amt]

theorem credit_at (c : Dev nD) (sm : SemLoc sig) :
    tallyOn (cellAt c sm) (launchCredit (Pipeline.owing fun d : Dev nD => owedAt d 0) 0 (cellAt c sm)) = (tallyAt (cellAt c sm) () (credOf sm) : CellTallies nD τ sig Unit) := by
  unfold tallyAt
  refine congrArg _ (Finsupp.ext fun u => ?_)
  cases u
  rw [Pipeline.launchCredit_owing, Finsupp.single_eq_same]
  exact owed_total c sm

theorem creds_dealt (c : Dev nD) : (Pipeline.launchCred (fun d : Dev nD => owedAt d 0) c : sProp 𝕄) ⊢ creds c := by
  unfold Pipeline.launchCred creds
  rw [bigSep_univ_at _ (SemLoc.reg barS : SemLoc sig), credit_at, credOf_bar]
  refine sep_mono_right ?_
  have hs : (Finset.univ : Finset Ends).map ⟨osem, osem_inj⟩ ⊆ Finset.univ.erase (SemLoc.reg barS : SemLoc sig) := fun sm h => by
    obtain ⟨j, -, rfl⟩ := Finset.mem_map.mp h
    exact Finset.mem_erase.mpr ⟨osem_ne_bar j, Finset.mem_univ _⟩
  refine (bigSep_subset hs).trans ?_
  rw [bigSep_map, ends_split]
  refine evens.trans (BIClass.sep_mono (bigSep_mono fun t _ => ?_) (bigSep_mono fun k _ => ?_))
  · exact Entails.of_eq (congrArg cred ((credit_at c (osem (recvE t.1 t.2))).trans (by rw [credOf_recv])))
  · exact Entails.of_eq (congrArg cred ((credit_at c (osem (xrecvE k))).trans (by rw [credOf_xrecv])))

/-! ## What every device may consult -/

theorem known_of (κ : GSem nD τ sig → ℕ) :
    iprop((bigSep (barCells ∪ endCells) fun g => cellInv ER (sched m) (κ g) g) ∗ (bigSep barCells fun g => reached ER g 0) ∗ levAts L lv) ⊢ (known m κ : sProp 𝕄) := by
  rw [bigSep_union cells_disjoint, bigSep_map, bigSep_map, bigSep_map]
  unfold known
  exact swap_mid.trans (sep_mono_left (Entails.of_eq (bigSep_sep' ..).symm))

end Cert.KernelIdeal.Run
-- ==== Proof.Launch.lean ====
/-
  The launch and the run: what every device ends with.
-/
module

public import proofs.«01_k».proof.Proof.Deal
public import Idealize.ShloMosaic.Lib.Pipeline.RegionTalk
public import Idealize.ShloMosaic.Lib.Quiescent

@[expose] public section

set_option maxRecDepth 16384

noncomputable section

namespace Cert.KernelIdeal.Run

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds (URounds)
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The buffers around the region -/

abbrev bufs : Finset (DevRef τ sig) := Pipeline.ucRefs τ sig
/-- The arguments: no window's arrays. -/
abbrev args : Finset (DevRef τ sig) := {Proc.devRef .tc main_arg0, Proc.devRef .tc main_arg1}

def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v3) (outW m c)

theorem V₂_out (c : Dev nD) : V₂ m c (Proc.devRef .tc main_v3) = outW m c := Function.update_self _ _ _
theorem V₂_ne (c : Dev nD) {b : DevRef τ sig} (h : b ≠ Proc.devRef .tc main_v3) : V₂ m c b = V₁ m c b := Function.update_of_ne h _ _

theorem bufs_split (c : Dev nD) (W : Valuation τ sig (Elt F)) : (StableHlo.held (c.tc : Thread nD τ) bufs W : sProp 𝕄)
    = iprop(StableHlo.held (c.tc : Thread nD τ) (Pipeline.arrRefs spec0) W ∗ StableHlo.held (c.tc : Thread nD τ) args W) := by
  rw [StableHlo.held_sub_split (c.tc : Thread nD τ) (show Pipeline.arrRefs (τ := τ) spec0 ⊆ bufs from by decide) W]
  rw [show bufs \ Pipeline.arrRefs (τ := τ) spec0 = args from by decide]

theorem bufs_list (c : Dev nD) (W : Valuation τ sig (Elt F)) : (StableHlo.held (c.tc : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_v1) ↦{fullShare} W (Proc.devRef .tc main_v1)) ∗ (((c : Thread nD τ).loc main_v2) ↦{fullShare} W (Proc.devRef .tc main_v2))
      ∗ (((c : Thread nD τ).loc main_v3) ↦{fullShare} W (Proc.devRef .tc main_v3))) := by
  unfold StableHlo.held
  rw [bigSep_eq_bigSepL_of_eq [Proc.devRef .tc main_arg0, Proc.devRef .tc main_arg1, Proc.devRef .tc main_v1, Proc.devRef .tc main_v2, Proc.devRef .tc main_v3]
    (by decide) (by decide)]
  rfl

/-! ## The region -/

def adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c
  | 0, c => dat0 m c
  | ⟨_ + 1, h⟩, _ => absurd h (Nat.not_lt.2 (Nat.le_add_left _ _))

theorem kitP : Pipeline.PLaunchFacts (nD := nD) (τ := τ) (pcfgs (F := F)) 0 where
  cellOf_inj a := by rw [show a = adm from Subsingleton.elim a adm]; exact cellOf_inj
  win := winFacts0
  pre := Pipeline.PreFacts.none _
  block_pos := block_pos0
  arr_whole := arr_whole0
  stage_whole := stage_whole0

/-- What the launch deals a device for the region. -/
def Tk (c : Dev nD) : sProp 𝕄 :=
  iprop(creds c ∗ ∃ κ, known m κ ∗ atPos ER (cellAt c (.reg barS)) 0 ∅ 0 ∗ (bigSep Finset.univ fun j : Ends => openTok ER (cellAt c (osem j))) ∗ toks c)
def Yk (c : Dev nD) : sProp 𝕄 := semVal (cellAt c (.reg barS)) 0

theorem known_own (κ : GSem nD τ sig → ℕ) (c : Dev nD) :
    known m κ ⊢ bigSep Finset.univ fun j : Ends => cellInv ER (sched m) (κ (cellAt c (osem j))) (cellAt c (osem j)) := by
  unfold known
  rw [bigSep_univ_prod]
  iintro ⟨-, HE, -⟩
  iapply (oneOf (Finset.mem_univ c) (Φ := fun d : Dev nD => bigSep Finset.univ fun j : Ends => cellInv ER (sched m) (κ (cellAt d (osem j))) (cellAt d (osem j))))
  iexact HE

theorem opens (c : Dev nD) : iprop(Tk m c ∗ Pipeline.ownSems0 osem c ∗ levAts L lv) ⊢ (|={Set.univ}=> entry m c : sProp 𝕄) := by
  unfold Tk entry openEnds
  iintro ⟨⟨HC, %κ, #HK, HB, HO, HT⟩, HS, -⟩
  imod (Rounds.cells_open ER (sched m) Finset.univ (fun j : Ends => cellAt c (osem j)) (fun j => κ (cellAt c (osem j))) (Es := Set.univ) fun _ _ => trivial) $$ [HO HS] with HE
  · isplitl [HO]
    · iapply (show iprop((bigSep Finset.univ fun j : Ends => cellInv ER (sched m) (κ (cellAt c (osem j))) (cellAt c (osem j))) ∗ bigSep Finset.univ fun j : Ends => openTok ER (cellAt c (osem j)))
        ⊢ (bigSep Finset.univ fun j : Ends => iprop(cellInv ER (sched m) (κ (cellAt c (osem j))) (cellAt c (osem j)) ∗ openTok ER (cellAt c (osem j))) : sProp 𝕄)
        from Entails.of_eq (bigSep_sep' ..).symm)
      isplitr [HO]; · iapply (known_own m κ c); iexact HK
      iexact HO
    · iapply (show Pipeline.ownSems0 osem c ⊢ (bigSep Finset.univ fun j : Ends => semVal (cellAt c (osem j)) 0 : sProp 𝕄) from .rfl); iexact HS
  imodintro
  isplitl [HC]; · iexact HC
  iexists κ
  isplitr; · iexact HK
  isplitl [HB]; · iexact HB
  isplitl [HE]; · iexact HE
  iexact HT

theorem no_bufs (c : Dev nD) (W : Valuation τ sig (Elt F)) : (StableHlo.held (c.tc : Thread nD τ) ∅ W : sProp 𝕄) = BI.emp := by
  unfold StableHlo.held
  exact bigSep_empty

theorem goes_in (c : Dev nD) : iprop(Pipeline.scopedRest (Pipeline.pin (pcfgs (F := F)) adm 0).spec c ∗ (∃ r, prngReg c r) ∗ StableHlo.held (c.tc : Thread nD τ) ∅ (V₁ m c) ∗ entry m c)
    ⊢ (pdats m 0 c).Φ 0 := by
  rw [show (pdats m 0 c).Φ 0 = iprop(entry m c ∗ rest c) from rfl,
    show Pipeline.scopedRest (Pipeline.pin (pcfgs (F := F)) adm 0).spec c = (Pipeline.scopedRest spec0 c : sProp 𝕄) from rfl, scopedRest0_eq]
  unfold rest
  iintro ⟨HS, Hg, -, HE⟩
  isplitl [HE]; · iexact HE
  isplitl [HS]; · iexact HS
  iexact Hg

theorem comes_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last (Pipeline.pin (pcfgs (F := F)) adm 0).N) = iprop((semVal (cellAt c (.reg barS)) 0 ∗ zeros c) ∗ rest c) from rfl,
    show Pipeline.scopedRest (Pipeline.pin (pcfgs (F := F)) adm 0).spec c = (Pipeline.scopedRest spec0 c : sProp 𝕄) from rfl, scopedRest0_eq, no_bufs]
  unfold rest zeros Yk
  iintro ⟨⟨HB, HZ⟩, HS, Hg⟩
  isplitl [HS]; · iexact HS
  isplitl [Hg]; · iexact Hg
  isplitr; · iempintro
  isplitl [HZ]; · iapply (show (bigSep Finset.univ fun j : Ends => semVal (cellAt c (osem j)) 0 : sProp 𝕄) ⊢ Pipeline.ownSems0 osem c from .rfl); iexact HZ
  iexact HB

theorem owed_above (c : Dev nD) (t : Fin ((Pipeline.pin (pcfgs (F := F)) adm 0).N + 1)) (g : GSem nD τ sig) (i : Unit) (h : 0 < (pdats m 0 c).owed t g i) :
    i ∈ L g ∧ (0 : ℕ) < lv g i := by
  rw [show (pdats m 0 c).owed t = if t.val = 0 then owedAt c 0 else 0 from rfl] at h
  split at h
  · obtain ⟨i, -, rfl⟩ := owed_pos h
    exact ⟨by rw [L_tc]; exact Finset.mem_singleton_self _, (by decide +kernel : ∀ i : Fin 19, 0 < lvS (paySem i)) i⟩
  · exact absurd h (Nat.lt_irrefl 0)

theorem arr_start (c : Dev nD) : ∀ w, (pdats m 0 c).arrAt w 0 = V₁ m c (Proc.devRef .tc (Pipeline.arrRef (Pipeline.pin (pcfgs (F := F)) adm 0).spec w))
  | 0 => rfl
  | 1 => rfl
  | 2 => rfl
  | ⟨_ + 3, h⟩ => absurd h (Nat.not_lt.2 (Nat.le_add_left _ _))

theorem arr_out (c : Dev nD) : (dat0 m c).arrAt 2 cfg0.N = outW m c := by
  rw [show cfg0.N = t0_0.val + 1 from rfl, (dat0 m c).arrAt_succ 2 t0_0, flush0_2, if_pos rfl]
  have h := blk2 (((cfg0.win 2).blk t0_0).view.write (Elt F) ((dat0 m c).arrAt 2 t0_0.val) ((dat0 m c).after 2 t0_0) Finset.univ) t0_0
  rw [View.read_write_univ] at h
  exact h.symm

theorem arr_end (c : Dev nD) : ∀ w, (pdats m 0 c).arrAt w (Pipeline.pin (pcfgs (F := F)) adm 0).N = V₂ m c (Proc.devRef .tc (Pipeline.arrRef (Pipeline.pin (pcfgs (F := F)) adm 0).spec w))
  | 0 => ((dat0 m c).arrAt_in 0 rfl _).trans (V₂_ne m c (by decide)).symm
  | 1 => ((dat0 m c).arrAt_in 1 rfl _).trans (V₂_ne m c (by decide)).symm
  | 2 => (arr_out m c).trans (V₂_out m c).symm
  | ⟨_ + 3, h⟩ => absurd h (Nat.not_lt.2 (Nat.le_add_left _ _))

theorem ownFacts : Pipeline.OwnSemFacts spec0 osem := ⟨by decide +kernel, osem_inj, by decide +kernel⟩

theorem shares (c : Dev nD) : ∀ w, (pdats m 0 c).share w = fullShare
  | 0 => rfl
  | 1 => rfl
  | 2 => rfl
  | ⟨_ + 3, h⟩ => absurd h (Nat.not_lt.2 (Nat.le_add_left _ _))

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ∅ args (Finset.empty_subset _) kitP rfl (fun c => (body0 m c).loose)
    (fun _ => 0) (fun c => owedAt c 0) (fun c => (owed_start m c).trans (zero_add _).symm) (owed_last m) (fun _ => rfl) (shares m)
    (V₁ m) (V₂ m) (fun c b hb => V₂_ne m c (fun e => absurd (e ▸ (Finset.mem_sdiff.mp hb).1) (by decide)))
    (Tk m) Yk (entry m) Yk (opens m) (goes_in m) (comes_out m)
    (fun c => by iintro H; imodintro; iexact H)
    (fun _ => 0)
    ⟨fun c w s => by rw [L_tc]; exact Finset.mem_singleton_self _,
      fun c w s => by revert w s; exact (by decide +kernel : ∀ (w : Fin 3) (s : Fin (spec0 w).nbuf), lvS (.dma ((spec0 w).sem s)) ≤ 0),
      fun c t g i h => owed_above m c t g i h⟩
    (fun _ => iprop(emp))
    (arr_start m) (arr_end m)

/-! ## @main -/

/-- What rides along the two host operations. -/
def ride (c : Dev nD) : sProp 𝕄 := iprop((Tk m c ∗ ∃ r, prngReg c r) ∗ ∃ W, owes (c : Thread nD τ) (owedAt c 0) W)

theorem sub_bufs : ∀ op ∈ (hostOps0 : List (HloOp τ sig (Elt F))), op.bufs ⊆ bufs := fun op h =>
  Pipeline.sub_ucRefs op (List.forall_iff_forall_mem.mp hostOps0_sub op h)

def seg0 : Pipeline.HostSeg (Name := ℕ) (U := UU) (pcfgs (F := F)) defs₀ 𝒱₀ L lv :=
  Pipeline.HostSeg.ofOps _ _ _ _ _ bufs hostOps0 sub_bufs (List.forall_iff_forall_mem.mp hostOps0_fresh) (V₀ m) (ride m)

def segs : List (Pipeline.Seg (pcfgs (F := F)) adm (pdats m) () defs₀ 𝒱₀ L lv) := [.host (seg0 m), .region (reg0 m)]

theorem enter0 (c : Dev nD) : (seg0 m).post c ⊢ (reg0 m).pre c := by
  show iprop(StableHlo.held (c.tc : Thread nD τ) bufs (V₁ m c) ∗ ride m c)
    ⊢ iprop(StableHlo.held (c.tc : Thread nD τ) (Pipeline.arrRefs spec0) (V₁ m c) ∗ (∃ r, prngReg c r)
      ∗ (StableHlo.held (c.tc : Thread nD τ) args (V₁ m c) ∗ emp) ∗ Tk m c ∗ ∃ Wd, owes (c : Thread nD τ) (0 + owedAt c 0) Wd)
  rw [bufs_split, zero_add]
  unfold ride
  iintro ⟨⟨HA, HR⟩, ⟨HT, Hg⟩, HO⟩
  isplitl [HA]; · iexact HA
  isplitl [Hg]; · iexact Hg
  isplitl [HR]
  · isplitl [HR]; · iexact HR
    iempintro
  isplitl [HT]; · iexact HT
  iexact HO

abbrev Tₙ (c : Dev nD) : sProp 𝕄 := iprop(StableHlo.held (c.tc : Thread nD τ) bufs (V₂ m c) ∗ semVal (cellAt c (.reg barS)) 0)

theorem leave0 (c : Dev nD) : (reg0 m).post c ⊢ iprop(Tₙ m c ∗ ∃ W, owes (c : Thread nD τ) (0 : CellTallies nD τ sig Unit) W) := by
  show iprop(StableHlo.held (c.tc : Thread nD τ) (Pipeline.arrRefs spec0) (V₂ m c) ∗ (∃ r, prngReg c r)
      ∗ (StableHlo.held (c.tc : Thread nD τ) args (V₂ m c) ∗ emp) ∗ Yk c ∗ ∃ Wd, owes (c : Thread nD τ) (0 : CellTallies nD τ sig Unit) Wd) ⊢ _
  unfold Tₙ Yk
  rw [bufs_split]
  iintro ⟨HA, -, ⟨HR, -⟩, HB, HO⟩
  isplitr [HO]
  · isplitr [HB]
    · isplitl [HA] <;> iassumption
    iexact HB
  iexact HO

/-! ## The start -/

/-- A resource as one per device: all of it on device c₀. -/
def onDev (c₀ : Dev nD) (P : sProp 𝕄) (c : Dev nD) : sProp 𝕄 := if c = c₀ then P else iprop(emp)
theorem bigSep_onDev (c₀ : Dev nD) (P : sProp 𝕄) : bigSep Finset.univ (onDev c₀ P) = P := by
  rw [bigSep_univ_at _ c₀, bigSep_congr (s := Finset.univ.erase c₀) (Ψ := fun _ => (BI.emp : sProp 𝕄))
      fun c hc => by unfold onDev; rw [if_neg (Finset.ne_of_mem_erase hc)]; rfl, bigSep_emp_const]
  unfold onDev
  rw [if_pos rfl]
  exact BI.equiv_iff.mp sep_emp

def start0 : Dev nD → sProp 𝕄 := onDev 0 (BI.own (ER (launchOf barCells endCells allToks)))

def u₀ : UU :=
  (initOf (Pipeline.cells (Pipeline.pin (pcfgs (F := F)) adm) cellOf_inj) (Pipeline.launchToks (Pipeline.pin (pcfgs (F := F)) adm) cellOf_inj),
    launchOf barCells endCells allToks)

theorem unscoped_eq : ∀ sm : SemLoc sig, sm.isScoped .tc = false → sm = .reg barS := by decide

theorem counter_eq (c : Dev nD) : (unscopedSems0 c : sProp 𝕄) = semVal (cellAt c (.reg barS)) 0 := by
  unfold unscopedSems0
  rw [show ((Finset.univ : Finset (SemLoc sig)).filter fun sm => ¬ sm.isScoped .tc) = {SemLoc.reg barS} from by decide, bigSep_singleton]

abbrev T₀ (c : Dev nD) : sProp 𝕄 := iprop(StableHlo.held (c.tc : Thread nD τ) bufs (V₀ m c) ∗ ride m c)

/-- The part of a device's start that is no ghost state. -/
def plain (c : Dev nD) : sProp 𝕄 :=
  iprop(StableHlo.held (c.tc : Thread nD τ) bufs (V₀ m c) ∗ creds c ∗ owes (c : Thread nD τ) (owedAt c 0) ∅ ∗ ∃ r, prngReg c r)
/-- The part that is, but for the records. -/
def dealt (c : Dev nD) : sProp 𝕄 :=
  iprop(atPos ER (cellAt c (.reg barS)) 0 ∅ 0 ∗ (bigSep Finset.univ fun j : Ends => openTok ER (cellAt c (osem j))) ∗ toks c)

theorem start_of (κ : GSem nD τ sig → ℕ) (c : Dev nD) : iprop(known m κ ∗ (dealt c ∗ plain m c)) ⊢ T₀ m c := by
  unfold dealt plain T₀ ride Tk
  iintro ⟨#HK, ⟨HB, HO, HT⟩, HH, HC, Hw, Hg⟩
  isplitl [HH]; · iexact HH
  isplitr [Hw]
  · isplitr [Hg]
    · isplitl [HC]; · iexact HC
      iexists κ
      isplitr; · iexact HK
      isplitl [HB]; · iexact HB
      isplitl [HO]; · iexact HO
      iexact HT
    iexact Hg
  iexists ∅; iexact Hw

theorem begin_one (c : Dev nD) : iprop(unscopedBufs c (fun b => m ((c : Thread nD τ).loc b)) ∗ unscopedSems0 c
      ∗ owes (c : Thread nD τ) (owedAt c 0) ∅ ∗ Pipeline.launchCred (fun d : Dev nD => owedAt d 0) c ∗ prngReg c (ρ c) ∗ start0 c)
    ⊢ (iprop(plain m c ∗ semVal (cellAt c (.reg barS)) 0 ∗ start0 c) : sProp 𝕄) := by
  rw [show unscopedBufs c (fun b => m ((c : Thread nD τ).loc b)) = (StableHlo.held (c.tc : Thread nD τ) bufs (V₀ m c) : sProp 𝕄)
    from Pipeline.unscopedBufs_held c (V₀ m c), counter_eq]
  unfold plain
  iintro ⟨HH, HB, Hw, HC, Hg, HG⟩
  ihave HC := (creds_dealt (F := F) c) $$ HC
  isplitl [HH HC Hw Hg]
  · isplitl [HH]; · iexact HH
    isplitl [HC]; · iexact HC
    isplitl [Hw]; · iexact Hw
    iexists (ρ c); iexact Hg
  isplitl [HB] <;> iassumption

theorem init :
    iprop((bigSep Finset.univ fun c : Dev nD => iprop(unscopedBufs c (fun b => m ((c : Thread nD τ).loc b)) ∗ unscopedSems0 c
          ∗ owes (c : Thread nD τ) (owedAt c 0) ∅ ∗ Pipeline.launchCred (fun d : Dev nD => owedAt d 0) c ∗ prngReg c (ρ c) ∗ start0 c)) ∗ levAts L lv)
      ⊢ (|={Set.univ}=> bigSep Finset.univ (T₀ m) : sProp 𝕄) := by
  iintro ⟨H, #HL⟩
  ihave H := (show (bigSep Finset.univ fun c : Dev nD => iprop(unscopedBufs c (fun b => m ((c : Thread nD τ).loc b)) ∗ unscopedSems0 c
          ∗ owes (c : Thread nD τ) (owedAt c 0) ∅ ∗ Pipeline.launchCred (fun d : Dev nD => owedAt d 0) c ∗ prngReg c (ρ c) ∗ start0 c))
      ⊢ (bigSep Finset.univ fun c : Dev nD => iprop(plain m c ∗ semVal (cellAt c (.reg barS)) 0 ∗ start0 c) : sProp 𝕄) from bigSep_mono fun c _ => begin_one m ρ c) $$ H
  ihave H := (pair_of (F := F)) $$ H
  icases H with ⟨HP, H⟩
  ihave H := (pair_of (F := F)) $$ H
  icases H with ⟨HB, HG⟩
  ihave HG := (show bigSep Finset.univ (start0 (F := F)) ⊢ BI.own (ER (launchOf barCells endCells allToks)) from Entails.of_eq (bigSep_onDev (F := F) 0 _)) $$ HG
  imod (Rounds.fund_launch ER (sched m) cells_disjoint (fun g _ h => h) allToks) $$ [HB HG] with ⟨%κ, -, #HI, #HR, HA, HO, HT⟩
  · isplitl [HB]
    · iapply (show bigSep Finset.univ (fun c : Dev nD => (semVal (cellAt c (.reg barS)) 0 : sProp 𝕄)) ⊢ bigSep barCells (fun g => (semVal g 0 : sProp 𝕄))
        from Entails.of_eq (bigSep_map (s := Finset.univ) barEmb (Φ := fun g : GSem nD τ sig => (semVal g 0 : sProp 𝕄))).symm)
      iexact HB
    iexact HG
  imodintro
  iapply (bigSep_with_persistent (R := known m κ) (Φ := fun c => iprop(dealt c ∗ plain m c)) fun c _ => start_of m κ c)
  isplitr
  · iapply (known_of m κ)
    isplitr; · iexact HI
    isplitr; · iexact HR
    iexact HL
  iapply (show iprop(bigSep Finset.univ (fun c : Dev nD => dealt c) ∗ bigSep Finset.univ fun c : Dev nD => plain m c)
    ⊢ (bigSep Finset.univ fun c : Dev nD => iprop(dealt c ∗ plain m c) : sProp 𝕄) from Entails.of_eq (bigSep_sep' ..).symm)
  isplitr [HP]
  · iapply (show iprop((bigSep Finset.univ fun c : Dev nD => atPos ER (cellAt c (.reg barS)) 0 ∅ 0)
        ∗ (bigSep Finset.univ fun c : Dev nD => bigSep Finset.univ fun j : Ends => openTok ER (cellAt c (osem j))) ∗ bigSep Finset.univ fun c : Dev nD => toks c)
      ⊢ (bigSep Finset.univ fun c : Dev nD => dealt c : sProp 𝕄) from by
        unfold dealt
        rw [bigSep_sep', bigSep_sep'])
    isplitl [HA]
    · iapply (show bigSep barCells (fun g => (atPos ER g 0 ∅ 0 : sProp 𝕄)) ⊢ bigSep Finset.univ fun c : Dev nD => (atPos ER (cellAt c (.reg barS)) 0 ∅ 0 : sProp 𝕄)
        from Entails.of_eq (bigSep_map (s := Finset.univ) barEmb (Φ := fun g : GSem nD τ sig => (atPos ER g 0 ∅ 0 : sProp 𝕄))))
      iexact HA
    isplitl [HO]
    · iapply (show bigSep endCells (fun g => (openTok ER g : sProp 𝕄)) ⊢ bigSep Finset.univ fun c : Dev nD => bigSep Finset.univ fun j : Ends => (openTok ER (cellAt c (osem j)) : sProp 𝕄)
        from Entails.of_eq ((bigSep_map (s := Finset.univ) endEmb (Φ := fun g : GSem nD τ sig => (openTok ER g : sProp 𝕄))).trans (bigSep_univ_prod _)))
      iexact HO
    iapply ((toks_dealt (F := F)).trans (toks_moved (F := F)))
    iexact HT
  iexact HP

set_option backward.isDefEq.respectTransparency.types false in
/-- The run: every weakly fair execution of the program on the 32 devices ends, with every counter at zero, each device's arguments as they were and
    its result the block `outW`. -/
theorem run_main : θ_run defs (onTc (τ := τ) (main (F := F))) ⟨m, fun _ => 0, ρ⟩
    (fun r => (∀ c : Dev nD, r.2.mem ((c.tc : Thread nD τ).loc main_v3) = outW m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; rfl)
    (by simp only [segs, Pipeline.Seg.pipes_host, Pipeline.Seg.pipes_region, Pipeline.Seg.pipes_nil]; decide)
    (O₀ := fun c => owedAt c 0) (hL := L_of_ne) (G := start0) (u₀ := u₀)
    (hu₀ := by
      unfold u₀ start0
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => enter0 m c, fun c => leave0 m c⟩)
    (hinit := init m ρ)
    (QY := fun c s => (s.mem ((c : Thread nD τ).loc main_v3) = V₂ m c (Proc.devRef .tc main_v3) ∧ s.mem ((c : Thread nD τ).loc main_arg0) = V₂ m c (Proc.devRef .tc main_arg0)
        ∧ s.mem ((c : Thread nD τ).loc main_arg1) = V₂ m c (Proc.devRef .tc main_arg1))
      ∧ s.sem (cellAt c (.reg barS)) = 0)
    (hfin := fun c s' => by
      dsimp only [Tₙ]; rw [bufs_list]
      iintro ⟨⟨⟨H0, H1, -, -, H3⟩, Hb⟩, HSI⟩
      icombine HSI H0 gives %h0
      icombine HSI H1 gives %h1
      icombine HSI H3 gives %h3
      icombine HSI Hb gives %hb
      imodintro
      isplitr
      · ipureintro
        exact ⟨⟨Buf.eq_of_forall_mem_univ h3, Buf.eq_of_forall_mem_univ h0, Buf.eq_of_forall_mem_univ h1⟩, by simpa using hb⟩
      iexact HSI)
    (hQ := fun s h hs => ⟨fun c => by
        obtain ⟨⟨h3, h0, h1⟩, -⟩ := h c
        exact ⟨h3.trans (V₂_out m c), h0.trans ((V₂_ne m c (by decide)).trans (V_main_arg0 m c)), h1.trans ((V₂_ne m c (by decide)).trans (V_main_arg1 m c))⟩,
      sem_eq_zero hs fun c sm hsm => by
        obtain rfl := unscoped_eq sm hsm
        exact (h c).2⟩)

end Cert.KernelIdeal.Run
-- ==== Proof.Value.lean ====
/-
  What the kernel computes, over the reals: the blocks of the plain result.

  A is the whole stack of the four parts, g the whole scale. Device c holds part `cy c`. The ring over y adds to a block of
  rows the same rows of all four parts, each once; the normalisation then treats a row as the plain program does.
-/
module

public import proofs.«01_k».proof.Proof.Buffers
public import proofs.«01_k».proof.Proof.Gen.ReferenceIdeal.Run
public import Idealize.ShloMosaic.Lib.Pointwise

@[expose] public section

set_option maxRecDepth 16384

noncomputable section

namespace Cert.KernelIdeal.Run

open Idealize.ShloMosaic Idealize.ShloMosaic.TcCoe Cert.KernelIdeal Cert.KernelIdeal.Gen
open Idealize.SL Idealize.SL.Sem

/-! ## The plain result -/

/-- The sum of the four parts. -/
abbrev total (A : ReferenceIdeal.S4x2048x512.Idx → Elt Ideal .f32) : FVec Ideal ReferenceIdeal.S2048x512 .f32 :=
  Host.reduceAdd (F := Ideal) A (constant ReferenceIdeal.S_ .f32 0x00000000#32) ReferenceIdeal.Gen.reducesTo_S4x2048x512_S2048x512_d0 ReferenceIdeal.Gen.h_S_

open ReferenceIdeal ReferenceIdeal.Gen in
/-- The reference's result, in its own operations. -/
def plainResult (A : ReferenceIdeal.S4x2048x512.Idx → Elt Ideal .f32) (g : ReferenceIdeal.S512.Idx → Elt Ideal .f32) :
    FVec Ideal ReferenceIdeal.S2048x512 .f32 :=
  mulf (Host.divf (total A) (broadcastInDim ReferenceIdeal.S2048x512 ![0, 1] bcast_S2048x1_S2048x512_0_1 (Host.sqrt (addf (Host.divf
    (broadcastInDim S2048x1 ![0] bcast_S2048_S2048x1_0 (Host.reduceAdd (mulf (total A) (total A)) (constant S_ .f32 0x00000000#32) reducesTo_S2048x512_S2048_d1 h_S_))
    (broadcastInDim S2048x1 ![] bcast_S_S2048x1 (constant S_ .f32 0x44000000#32)))
    (broadcastInDim S2048x1 ![] bcast_S_S2048x1 (constant S_ .f32 0x358637BD#32))))))
    (broadcastInDim ReferenceIdeal.S2048x512 ![0, 1] bcast_S1x512_S2048x512_0_1 (broadcastInDim ReferenceIdeal.S1x512 ![1] bcast_S512_S1x512_1 g))

/-- A row s, divided by the root of its mean square and scaled. -/
def normed (s g : Fin 512 → EReal) (l : Fin 512) : EReal :=
  Ideal.div (s l) (Ideal.sqrt (Ideal.div (∑ x, s x * s x) (Ideal.ofBits FTy.f32 0x44000000#32) + Ideal.ofBits FTy.f32 0x358637BD#32)) * g l

theorem plainResult_at (A : ReferenceIdeal.S4x2048x512.Idx → Elt Ideal .f32) (g : ReferenceIdeal.S512.Idx → Elt Ideal .f32) (r : Fin 2048) (l : Fin 512) :
    plainResult A g (ix2 r l) = normed (fun x => ∑ y : Fin 4, A (ix3 y r x)) (fun x => g (ix1 x)) l := by
  pointwise [plainResult, total, normed]

/-! ## The body's operations at an index -/

/-- The finished block is the normalised sum of its two operands. -/
theorem finish_at (a b : FVec Ideal S64x512 .f32) (g : FVec Ideal S1x512 .f32) (r : Fin 64) (l : Fin 512) :
    k0_pay10 (F := Ideal) (shapeCast S1x64x512 a shapeCasts_S64x512_S1x64x512) b g (ix2 r l)
      = normed (fun x => a (ix2 r x) + b (ix2 r x)) (fun x => g (ix2 0 x)) l := by
  pointwise [k0_pay10, normed]

/-- A step of the ring adds. -/
theorem add_at (a b : FVec Ideal S64x512 .f32) (r : Fin 64) (l : Fin 512) :
    shapeCast S64x512 (k0_pay1 (F := Ideal) (shapeCast S1x64x512 a shapeCasts_S64x512_S1x64x512) b) shapeCasts_S1x64x512_S64x512 (ix2 r l)
      = a (ix2 r l) + b (ix2 r l) := by
  pointwise [k0_pay1]

/-- The two inputs lose and gain an axis of one before the kernel starts. -/
theorem squeezed (f : FVec Ideal S1x2048x512 .f32) (r : Fin 2048) (l : Fin 512) :
    shapeCast S2048x512 f shapeCasts_S1x2048x512_S2048x512 (ix2 r l) = f (ix3 0 r l) := by
  pointwise
theorem widened (f : FVec Ideal S512 .f32) (l : Fin 512) : shapeCast S1x512 f shapeCasts_S512_S1x512 (ix2 0 l) = f (ix1 l) := by
  pointwise

variable (m : (ℓ : Loc nD τ sig) → Buf (Elt Ideal) ℓ)

/-! ## The inputs as the kernel finds them -/

theorem X_eq (c : Dev nD) : X m c = shapeCast S2048x512 (m ((c.tc : Thread nD τ).loc main_arg0)) shapeCasts_S1x2048x512_S2048x512 := by
  unfold X V
  after_results
  rfl

theorem G_eq (c : Dev nD) : G m c = shapeCast S1x512 (m ((c.tc : Thread nD τ).loc main_arg1)) shapeCasts_S512_S1x512 := by
  unfold G V
  after_results
  rfl

/-- How the launch lays the whole inputs out: device c holds part `cy c` of the stack, and all of the scale. -/
structure Laid (A : ReferenceIdeal.S4x2048x512.Idx → Elt Ideal .f32) (g : ReferenceIdeal.S512.Idx → Elt Ideal .f32) : Prop where
  stack : ∀ (c : Dev nD) (r : Fin 2048) (l : Fin 512),
    (m ((c.tc : Thread nD τ).loc main_arg0) : S1x2048x512.Idx → Elt Ideal .f32) (ix3 0 r l) = A (ix3 ⟨cy c, cy_lt c⟩ r l)
  scale : ∀ c : Dev nD, (m ((c.tc : Thread nD τ).loc main_arg1) : S512.Idx → Elt Ideal .f32) = g

variable {m} {A : ReferenceIdeal.S4x2048x512.Idx → Elt Ideal .f32} {g : ReferenceIdeal.S512.Idx → Elt Ideal .f32} (hL : Laid m A g)
include hL

theorem X_at (c : Dev nD) (r : Fin 2048) (l : Fin 512) : X m c (ix2 r l) = A (ix3 ⟨cy c, cy_lt c⟩ r l) := by
  rw [← hL.stack, X_eq]
  exact squeezed _ r l

theorem G_at (c : Dev nD) (l : Fin 512) : G m c (ix2 0 l) = g (ix1 l) := by
  rw [← hL.scale c, G_eq]
  exact widened _ l

/-! ## The ring's sums -/

/-- Row r of block k of the rows device c works on in the chunk q. -/
def row (c : Dev nD) (q : ℕ) (k : Fin 4) (r : Fin 64) : Fin 2048 :=
  ⟨512 * (q % 4) + 256 * cx c + 64 * k.val + r.val, by have := cx_lt c; have := k.isLt; have := r.isLt; omega⟩

omit hL in
theorem row_lft (c : Dev nD) (q q' : ℕ) (h : q % 4 = q' % 4) (k : Fin 4) (r : Fin 64) : row (lft c) q k r = row c q' k r :=
  Fin.ext (by show 512 * (q % 4) + 256 * cx (lft c) + _ + _ = 512 * (q' % 4) + 256 * cx c + _ + _; rw [cx_lft, h])

theorem chunk_at (c : Dev nD) (n : Fin 3) (k : Fin 4) (r : Fin 64) (l : Fin 512) :
    chunk m c n k (ix2 r l) = A (ix3 ⟨cy c, cy_lt c⟩ (row c (cy c + n.val) k r) l) := by
  rw [← X_at hL]
  show X m c ((chunkRect c n k).emb (ix2 r l)) = _
  congr 1
  funext a
  refine Fin.ext ?_
  rw [unit_emb_val]
  have h := congrFun (off_chunk c n k) a
  fin_cases a
  · exact congrArg (· + r.val) h
  · exact (congrArg (· + l.val) h).trans (Nat.zero_add _)

theorem first_at (c : Dev nD) (k : Fin 4) (r : Fin 64) (l : Fin 512) :
    sent m 0 c k (ix2 r l) = A (ix3 ⟨cy c, cy_lt c⟩ (row c (cy c + 3) k r) l) := by
  rw [← X_at hL]
  show X m c ((srcRect c k).emb (ix2 r l)) = _
  congr 1
  funext a
  refine Fin.ext ?_
  rw [unit_emb_val]
  have h := congrFun (off_src c k) a
  fin_cases a
  · exact congrArg (· + r.val) h
  · exact (congrArg (· + l.val) h).trans (Nat.zero_add _)

theorem sent_at (s : ℕ) (c : Dev nD) (k : Fin 4) (r : Fin 64) (l : Fin 512) :
    sent m (s + 1) c k (ix2 r l)
      = sent m s (lft c) k (ix2 r l) + A (ix3 ⟨cy c, cy_lt c⟩ (row c (cy c + (ahead s).val) k r) l) := by
  rw [← chunk_at hL]
  exact add_at _ _ r l

omit hL in
/-- The four parts, added from any of them on round the ring. -/
theorem round (f : Fin 4 → EReal) (q q1 q2 q3 : Fin 4) (h1 : q1.val = (q.val + 3) % 4) (h2 : q2.val = (q1.val + 3) % 4) (h3 : q3.val = (q2.val + 3) % 4) :
    f q3 + f q2 + f q1 + f q = ∑ y, f y := by
  rw [Fin.sum_univ_four]
  fin_cases q <;> fin_cases q1 <;> simp at h1 <;> fin_cases q2 <;> simp at h2 <;> fin_cases q3 <;> simp at h3 <;> (simp <;> abel)

/-- Before the normalisation a block of device c's half holds the sum of the four parts. -/
theorem acc_at (c : Dev nD) (k : Fin 4) (r : Fin 64) (l : Fin 512) :
    landed m c 2 k (ix2 r l) + chunk m c 0 k (ix2 r l) = ∑ y : Fin 4, A (ix3 y (row c (cy c) k r) l) := by
  have h1 := cy_lft c
  have h2 := cy_lft (lft c)
  have h3 := cy_lft (lft (lft c))
  have hc := cy_lt c
  show sent m 2 (lft c) k (ix2 r l) + _ = _
  rw [sent_at hL, sent_at hL, first_at hL, chunk_at hL,
    row_lft c (cy (lft c) + (ahead 1).val) (cy c) (by show (cy (lft c) + 1) % 4 = _; omega),
    row_lft (lft c) _ (cy c) (by show (cy (lft (lft c)) + 2) % 4 = _; omega), row_lft c (cy c) (cy c) rfl,
    row_lft (lft (lft c)) _ (cy c) (by omega), row_lft (lft c) (cy c) (cy c) rfl, row_lft c (cy c) (cy c) rfl]
  exact round (fun y => A (ix3 y (row c (cy c) k r) l)) ⟨cy c, cy_lt c⟩ ⟨cy (lft c), cy_lt _⟩ ⟨cy (lft (lft c)), cy_lt _⟩ ⟨cy (lft (lft (lft c))), cy_lt _⟩ h1 h2 h3

/-- A finished block is a block of the plain result. -/
theorem outBlk_at (c : Dev nD) (k : Fin 4) (r : Fin 64) (l : Fin 512) : outBlk m c k (ix2 r l) = plainResult A g (ix2 (row c (cy c) k r) l) := by
  rw [plainResult_at]
  refine (finish_at (landed m c 2 k) (chunk m c 0 k) (G m c) r l).trans ?_
  simp only [acc_at hL, G_at hL]

/-- The finished result of device c: rows 512 `cy c` and on of the plain result. -/
theorem outW_at (c : Dev nD) (i : S512x512.Idx) (R : Fin 2048) (l : Fin 512) (hR : R.val = 512 * cy c + (i 0).val) (hl : l.val = (i 1).val) :
    outW m c i = plainResult A g (ix2 R l) := by
  have h0 : (i 0).val < 512 := (i 0).isLt
  have hx := cx_lt c
  have hy := cy_lt c
  unfold outW
  generalize hd : (if (i 0).val / 256 = cx c then c else xp c) = d
  have hdy : cy d = cy c := by rw [← hd]; split <;> [rfl; exact cy_xp c]
  have hdx : cx d = (i 0).val / 256 := by
    rw [← hd]; split
    · omega
    · rw [cx_xp]; omega
  have e := outBlk_at hL d ⟨(i 0).val % 256 / 64, by omega⟩ ⟨(i 0).val % 64, by omega⟩ l
  have eR : row d (cy d) ⟨(i 0).val % 256 / 64, by omega⟩ ⟨(i 0).val % 64, by omega⟩ = R :=
    Fin.ext (by show 512 * (cy d % 4) + 256 * cx d + 64 * ((i 0).val % 256 / 64) + (i 0).val % 64 = R.val; rw [hdx, hdy]; omega)
  rw [eR] at e
  rw [← e]
  congr 1
  funext a
  refine Fin.ext ?_
  fin_cases a
  · rfl
  · exact hl.symm

end Cert.KernelIdeal.Run
-- ==== Proof.lean ====
/-
  The certificate's five claims.

    quiescent_Kernel, quiescent_KernelIdeal — the run of Proof/Launch.lean, at either kind of float: every fair execution on the
      32 devices ends, nothing faults, the arguments are kept and every counter is back at zero.
    quiescent_ReferenceIdeal — the plain program has no counters.
    preserves_Kernel_KernelIdeal — no operation was replaced.
    algebraic_KernelIdeal_ReferenceIdeal — the run once more: each device ends with `outW`, which Proof/Value.lean reads over the
      reals as the device's rows of the plain result.
-/
module

public import proofs.«01_k».proof.Defs
public import proofs.«01_k».proof.Proof.Gen.Kernel
public import proofs.«01_k».proof.Proof.Launch
public import proofs.«01_k».proof.Proof.Value
public import Idealize.ShloMosaic.Lib.Quiescent

@[expose] public section

set_option maxRecDepth 16384

noncomputable section

namespace Cert.Proof

open Idealize.ShloMosaic Idealize.ShloMosaic.TcCoe Idealize.SL.Sem
open Cert.KernelIdeal.Run

/-- The run with what it says of the result dropped. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1))
      ∧ r.2.sem = fun _ => 0 :=
  (θ_run Cert.KernelIdeal.defs _ _).mono (fun _ h => ⟨fun c => (h.1 c).2, h.2⟩) (run_main (F := F) m ρ)

/-- Kernel and KernelIdeal have the same text, hence the same body table. -/
theorem body_same : Cert.Kernel.defs₀ (F := Bits) = Cert.KernelIdeal.defs₀ (F := Bits) := by
  unfold Cert.Kernel.defs₀ Cert.KernelIdeal.defs₀
  congr 1
  funext l x
  match l, x with
  | (0 : Fin 1), (_, _) => rfl

theorem defs_same : Cert.Kernel.defs (F := Bits) = Cert.KernelIdeal.defs (F := Bits) :=
  congrArg (Pipeline.defs Cert.KernelIdeal.pcfgs) body_same

theorem frame_kernel : Cert.quiescent_Kernel := fun m ρ _ =>
  (congrArg (fun d => θ_run d (onTc (τ := Cert.KernelIdeal.τ) (Cert.KernelIdeal.main (F := Bits))) ⟨m, fun _ => 0, ρ⟩ _) defs_same).mpr
    (frame_run (F := Bits) m ρ)

theorem frame_kernelIdeal : Cert.quiescent_KernelIdeal := fun m ρ _ => frame_run (F := Ideal) m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- A device's place along an axis that is cut over y. -/
theorem lin_y (c : Dev Cert.KernelIdeal.nD) : Layout.meshLin [2, 4, 4] c.val [1] = cy c := by
  show c.val / 4 % 4 * 1 + 0 = c.val / 4 % 4; omega

theorem algebraic : Cert.algebraic_KernelIdeal_ReferenceIdeal := by
  intro m ρ m' ρ' _ hag
  have hL : Laid m (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)) := by
    refine ⟨fun c r l => ?_, fun c => (hag c).2⟩
    rw [(hag c).1]
    refine congrArg (m' (((0 : Dev Cert.ReferenceIdeal.nD).tc : Thread _ Cert.ReferenceIdeal.τ).loc Cert.ReferenceIdeal.main_arg0)) (funext fun a => Fin.ext ?_)
    rw [Layout.TilesN.idx_val]
    fin_cases a
    · show Layout.meshLin [2, 4, 4] c.val [1] * 1 + 0 = cy c; rw [lin_y]; omega
    · show 0 * 2048 + r.val = r.val; omega
    · show 0 * 512 + l.val = l.val; omega
  refine ⟨plainResult (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c).1.trans (funext fun i => ?_), (h.1 c).2⟩) (run_main (F := Ideal) m ρ)
    have hi : (i 0).val < 512 := (i 0).isLt
    have hy := cy_lt c
    refine (outW_at hL c i ⟨512 * cy c + (i 0).val, by omega⟩ ⟨(i 1).val, (i 1).isLt⟩ rfl rfl).trans ?_
    refine congrArg (plainResult _ _) (funext fun a => Fin.ext ?_)
    rw [Layout.TilesN.idx_val]
    fin_cases a
    · show 512 * cy c + (i 0).val = Layout.meshLin [2, 4, 4] c.val [1] * 512 + (i 0).val; rw [lin_y]; omega
    · show (i 1).val = 0 * 512 + (i 1).val; omega
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, frame_kernel, frame_kernelIdeal, frame_referenceIdeal,
    trivial, algebraic⟩

end Cert.Proof

end
